-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gamma [hPre_finite_gamma : Cert.Pre_finite_gamma.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gamma [hPre_finite_gamma : Cert.Pre_finite_gamma.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gamma.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gamma [hKernelIdeal : Cert.KernelIdeal.Facts] [hPre_finite_gamma : Cert.Pre_finite_gamma.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gamma m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gamma [hReferenceIdeal : Cert.ReferenceIdeal.Facts] [hPre_finite_gamma : Cert.Pre_finite_gamma.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gamma m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_gamma [hKernelIdeal : Cert.KernelIdeal.Facts] [hReferenceIdeal : Cert.ReferenceIdeal.Facts] [hPre_finite_gamma : Cert.Pre_finite_gamma.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gamma m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_gamma : Cert.Pre_finite_gamma.Facts),
    quiescent_Kernel (hKernel := hKernel)
    ∧ quiescent_KernelIdeal (hKernelIdeal := hKernelIdeal)
    ∧ quiescent_KernelIdeal_pre_finite_gamma (hKernelIdeal := hKernelIdeal) (hPre_finite_gamma := hPre_finite_gamma)
    ∧ quiescent_ReferenceIdeal (hReferenceIdeal := hReferenceIdeal)
    ∧ quiescent_ReferenceIdeal_pre_finite_gamma (hReferenceIdeal := hReferenceIdeal) (hPre_finite_gamma := hPre_finite_gamma)
    ∧ preserves_Kernel_KernelIdeal
    ∧ algebraic_KernelIdeal_ReferenceIdeal_pre_finite_gamma (hKernelIdeal := hKernelIdeal) (hReferenceIdeal := hReferenceIdeal) (hPre_finite_gamma := hPre_finite_gamma)
-- ==== Pre_finite_gamma.lean ====
abbrev S4x4096x2048x2 : Shape := ⟨4, ![4, 4096, 2048, 2]⟩
abbrev S2048x3 : Shape := ⟨2, ![2048, 3]⟩
abbrev S2048x2 : Shape := ⟨2, ![2048, 2]⟩
abbrev S_ : Shape := ⟨0, ![]⟩

class Facts : Prop where
  bcast_S_S2048x3 : S_.BroadcastsInDim S2048x3 (![] : Fin 0 → Fin S2048x3.rank)
  reducesTo_S2048x3_S_d0_1 : S2048x3.ReducesTo [0, 1] S_
  h_S_ : 0 < S_.numel

variable [Facts]

def fn {F : FTy → Type} [FloatOps F] (main_arg0 : FVec F S4x4096x2048x2 .f32) (main_arg1 : FVec F S2048x3 .f32) (main_arg2 : FVec F S2048x2 .f32) : IVec S_ 1 :=
  let main_v0 : FVec F S2048x3 .f32 := Host.absf main_arg1
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_c : IVec S_ 1 := constantI S_ 1 1#1
  let main_v3 : IVec S_ 1 := (fun x v => Host.reduce IntOp.andi x v reducesTo_S2048x3_S_d0_1 h_S_) main_v2 main_c
  main_v3
-- ==== Kernel.lean ====
abbrev S4x4096x2048x2 : Shape := ⟨4, ![4, 4096, 2048, 2]⟩
abbrev S2048x3 : Shape := ⟨2, ![2048, 3]⟩
abbrev S2048x2 : Shape := ⟨2, ![2048, 2]⟩
abbrev S16384x16x128x2 : Shape := ⟨4, ![16384, 16, 128, 2]⟩
abbrev S16384x16x2x128 : Shape := ⟨4, ![16384, 16, 2, 128]⟩
abbrev S16384x32x128 : Shape := ⟨3, ![16384, 32, 128]⟩
abbrev S16x128x2 : Shape := ⟨3, ![16, 128, 2]⟩
abbrev S16x2x128 : Shape := ⟨3, ![16, 2, 128]⟩
abbrev S1x32x128 : Shape := ⟨3, ![1, 32, 128]⟩
abbrev S256x32x128 : Shape := ⟨3, ![256, 32, 128]⟩
abbrev S256x3 : Shape := ⟨2, ![256, 3]⟩
abbrev S1x8x1 : Shape := ⟨3, ![1, 8, 1]⟩
abbrev S256x8x128 : Shape := ⟨3, ![256, 8, 128]⟩
abbrev S256 : Shape := ⟨1, ![256]⟩
abbrev S256x1x1 : Shape := ⟨3, ![256, 1, 1]⟩
abbrev S256x1 : Shape := ⟨2, ![256, 1]⟩
abbrev S256x8x1 : Shape := ⟨3, ![256, 8, 1]⟩
abbrev S1x8x128 : Shape := ⟨3, ![1, 8, 128]⟩

abbrev nBuf : Space → Nat
  | .hbm => 13
  | .vmem => 7
  | .smem => 0
  | _ => 0

abbrev bufTy : (tb : Table) → Fin (tcTables nBuf tb) → BufTy
  | .hbm, ⟨0, _⟩ => ⟨S4x4096x2048x2, .f32⟩
  | .hbm, ⟨1, _⟩ => ⟨S2048x3, .f32⟩
  | .hbm, ⟨2, _⟩ => ⟨S2048x2, .f32⟩
  | .hbm, ⟨3, _⟩ => ⟨S16384x16x128x2, .f32⟩
  | .hbm, ⟨4, _⟩ => ⟨S16384x16x2x128, .f32⟩
  | .hbm, ⟨5, _⟩ => ⟨S16384x32x128, .f32⟩
  | .hbm, ⟨6, _⟩ => ⟨S16x128x2, .f32⟩
  | .hbm, ⟨7, _⟩ => ⟨S16x2x128, .f32⟩
  | .hbm, ⟨8, _⟩ => ⟨S1x32x128, .f32⟩
  | .hbm, ⟨9, _⟩ => ⟨S16384x32x128, .f32⟩
  | .hbm, ⟨10, _⟩ => ⟨S16384x16x2x128, .f32⟩
  | .hbm, ⟨11, _⟩ => ⟨S16384x16x128x2, .f32⟩
  | .hbm, ⟨12, _⟩ => ⟨S4x4096x2048x2, .f32⟩
  | .local _ .vmem, ⟨0, _⟩ => ⟨S256x32x128, .f32⟩
  | .local _ .vmem, ⟨1, _⟩ => ⟨S256x32x128, .f32⟩
  | .local _ .vmem, ⟨2, _⟩ => ⟨S256x3, .f32⟩
  | .local _ .vmem, ⟨3, _⟩ => ⟨S256x3, .f32⟩
  | .local _ .vmem, ⟨4, _⟩ => ⟨S1x32x128, .f32⟩
  | .local _ .vmem, ⟨5, _⟩ => ⟨S256x32x128, .f32⟩
  | .local _ .vmem, ⟨6, _⟩ => ⟨S256x32x128, .f32⟩
  | _, _ => ⟨S4x4096x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x2048x2 : Shape := ⟨4, ![4, 4096, 2048, 2]⟩
abbrev S2048x3 : Shape := ⟨2, ![2048, 3]⟩
abbrev S2048x2 : Shape := ⟨2, ![2048, 2]⟩
abbrev S_ : Shape := ⟨0, ![]⟩
abbrev S4x4096x2 : Shape := ⟨3, ![4, 4096, 2]⟩
abbrev S4x4096x1x2 : Shape := ⟨4, ![4, 4096, 1, 2]⟩
abbrev S16384x2048x2 : Shape := ⟨3, ![16384, 2048, 2]⟩
abbrev S16384x2x2 : Shape := ⟨3, ![16384, 2, 2]⟩
abbrev S2x2 : Shape := ⟨2, ![2, 2]⟩
abbrev S1x2x2 : Shape := ⟨3, ![1, 2, 2]⟩
abbrev S16384x1x1 : Shape := ⟨3, ![16384, 1, 1]⟩
abbrev S16384 : Shape := ⟨1, ![16384]⟩
abbrev S16384x1 : Shape := ⟨2, ![16384, 1]⟩
abbrev S16384x2 : Shape := ⟨2, ![16384, 2]⟩
abbrev S16384x1x2 : Shape := ⟨3, ![16384, 1, 2]⟩
abbrev S16384x2x2048 : Shape := ⟨3, ![16384, 2, 2048]⟩
abbrev S2048x16384x2 : Shape := ⟨3, ![2048, 16384, 2]⟩
abbrev S33554432x2 : Shape := ⟨2, ![33554432, 2]⟩
abbrev S2048x2x1 : Shape := ⟨3, ![2048, 2, 1]⟩
abbrev S2048x2x2 : Shape := ⟨3, ![2048, 2, 2]⟩
abbrev S1x2048x1x2x1x2 : Shape := ⟨6, ![1, 2048, 1, 2, 1, 2]⟩
abbrev S16384x2048x1x2x1x2 : Shape := ⟨6, ![16384, 2048, 1, 2, 1, 2]⟩
abbrev S33554432x2x2 : Shape := ⟨3, ![33554432, 2, 2]⟩
abbrev S1x2048x2 : Shape := ⟨3, ![1, 2048, 2]⟩

abbrev nBuf : Space → Nat
  | .hbm => 151
  | .vmem => 0
  | .smem => 0
  | _ => 0

abbrev hbmTy0_0 (i : Nat) : BufTy := match i % 128 with
  | 0 => ⟨S4x4096x2048x2, .f32⟩
  | 1 => ⟨S2048x3, .f32⟩
  | 2 => ⟨S2048x2, .f32⟩
  | 3 => ⟨S_, .f32⟩
  | 4 => ⟨S4x4096x2, .f32⟩
  | 5 => ⟨S4x4096x1x2, .f32⟩
  | 6 => ⟨S_, .f32⟩
  | 7 => ⟨S4x4096x1x2, .f32⟩
  | 8 => ⟨S4x4096x1x2, .f32⟩
  | 9 => ⟨S4x4096x2048x2, .f32⟩
  | 10 => ⟨S4x4096x2048x2, .f32⟩
  | 11 => ⟨S16384x2048x2, .f32⟩
  | 12 => ⟨S16384x2x2, .f32⟩
  | 13 => ⟨S_, .f32⟩
  | 14 => ⟨S16384x2x2, .f32⟩
  | 15 => ⟨S16384x2x2, .f32⟩
  | 16 => ⟨S2x2, .i32⟩
  | 17 => ⟨S2x2, .i32⟩
  | 18 => ⟨S_, .i32⟩
  | 19 => ⟨S2x2, .i32⟩
  | 20 => ⟨S2x2, .i32⟩
  | 21 => ⟨S2x2, .i1⟩
  | 22 => ⟨S2x2, .f32⟩
  | 23 => ⟨S_, .f32⟩
  | 24 => ⟨S2x2, .f32⟩
  | 25 => ⟨S2x2, .f32⟩
  | 26 => ⟨S1x2x2, .f32⟩
  | 27 => ⟨S16384x2x2, .f32⟩
  | 28 => ⟨S16384x2x2, .f32⟩
  | 29 => ⟨S16384x1x1, .f32⟩
  | 30 => ⟨S16384, .f32⟩
  | 31 => ⟨S16384x1x1, .f32⟩
  | 32 => ⟨S16384, .f32⟩
  | 33 => ⟨S16384x1x1, .f32⟩
  | 34 => ⟨S16384, .f32⟩
  | 35 => ⟨S16384, .f32⟩
  | 36 => ⟨S_, .f32⟩
  | 37 => ⟨S16384, .f32⟩
  | 38 => ⟨S16384, .f32⟩
  | 39 => ⟨S16384, .f32⟩
  | 40 => ⟨S_, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384x1, .f32⟩
  | 50 => ⟨S16384x1, .f32⟩
  | 51 => ⟨S16384x2, .f32⟩
  | 52 => ⟨S_, .f32⟩
  | 53 => ⟨S16384, .f32⟩
  | 54 => ⟨S16384, .i1⟩
  | 55 => ⟨S_, .f32⟩
  | 56 => ⟨S16384, .f32⟩
  | 57 => ⟨S16384, .i1⟩
  | 58 => ⟨S16384, .f32⟩
  | 59 => ⟨S16384, .f32⟩
  | 60 => ⟨S_, .f32⟩
  | 61 => ⟨S_, .f32⟩
  | 62 => ⟨S16384, .f32⟩
  | 63 => ⟨S16384, .f32⟩
  | 64 => ⟨S_, .f32⟩
  | 65 => ⟨S16384, .f32⟩
  | 66 => ⟨S16384, .i1⟩
  | 67 => ⟨S_, .f32⟩
  | 68 => ⟨S16384, .f32⟩
  | 69 => ⟨S16384, .i1⟩
  | 70 => ⟨S16384, .f32⟩
  | 71 => ⟨S16384, .f32⟩
  | 72 => ⟨S_, .f32⟩
  | 73 => ⟨S_, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384x1, .f32⟩
  | 84 => ⟨S16384x1, .f32⟩
  | 85 => ⟨S16384x2, .f32⟩
  | 86 => ⟨S16384x1, .f32⟩
  | 87 => ⟨S16384x1, .f32⟩
  | 88 => ⟨S16384x2, .f32⟩
  | 89 => ⟨S16384x1x2, .f32⟩
  | 90 => ⟨S16384x1x2, .f32⟩
  | 91 => ⟨S16384x2x2, .f32⟩
  | 92 => ⟨S16384x2, .f32⟩
  | 93 => ⟨S_, .f32⟩
  | 94 => ⟨S16384x2, .f32⟩
  | 95 => ⟨S16384x2, .f32⟩
  | 96 => ⟨S16384x1x2, .f32⟩
  | 97 => ⟨S16384x2x2, .f32⟩
  | 98 => ⟨S16384x2x2, .f32⟩
  | 99 => ⟨S16384x1x1, .f32⟩
  | 100 => ⟨S16384, .f32⟩
  | 101 => ⟨S16384x1x1, .f32⟩
  | 102 => ⟨S16384, .f32⟩
  | 103 => ⟨S16384, .f32⟩
  | 104 => ⟨S16384x1x1, .f32⟩
  | 105 => ⟨S16384, .f32⟩
  | 106 => ⟨S16384x1x1, .f32⟩
  | 107 => ⟨S16384, .f32⟩
  | 108 => ⟨S16384, .f32⟩
  | 109 => ⟨S16384, .f32⟩
  | 110 => ⟨S16384x1x1, .f32⟩
  | 111 => ⟨S16384, .f32⟩
  | 112 => ⟨S16384x1x1, .f32⟩
  | 113 => ⟨S16384, .f32⟩
  | 114 => ⟨S16384, .f32⟩
  | 115 => ⟨S16384x1, .f32⟩
  | 116 => ⟨S16384x1, .f32⟩
  | 117 => ⟨S16384x2, .f32⟩
  | 118 => ⟨S16384x1x1, .f32⟩
  | 119 => ⟨S16384, .f32⟩
  | 120 => ⟨S16384, .f32⟩
  | 121 => ⟨S16384x1x1, .f32⟩
  | 122 => ⟨S16384, .f32⟩
  | 123 => ⟨S16384x1, .f32⟩
  | 124 => ⟨S16384x1, .f32⟩
  | 125 => ⟨S16384x2, .f32⟩
  | 126 => ⟨S16384x1x2, .f32⟩
  | 127 => ⟨S16384x1x2, .f32⟩
  | _ => ⟨S4x4096x2048x2, .f32⟩

abbrev hbmTy0_1 (i : Nat) : BufTy := match i % 128 with
  | 0 => ⟨S16384x2x2, .f32⟩
  | 1 => ⟨S16384x1x1, .f32⟩
  | 2 => ⟨S16384x2x2, .f32⟩
  | 3 => ⟨S16384x2x2, .f32⟩
  | 4 => ⟨S16384x2x2, .f32⟩
  | 5 => ⟨S16384x2x2048, .f32⟩
  | 6 => ⟨S2048x16384x2, .f32⟩
  | 7 => ⟨S33554432x2, .f32⟩
  | 8 => ⟨S2048x2, .f32⟩
  | 9 => ⟨S2048x2, .f32⟩
  | 10 => ⟨S2048x2x1, .f32⟩
  | 11 => ⟨S2048x2x1, .f32⟩
  | 12 => ⟨S2048x2x2, .f32⟩
  | 13 => ⟨S1x2048x1x2x1x2, .f32⟩
  | 14 => ⟨S16384x2048x1x2x1x2, .f32⟩
  | 15 => ⟨S33554432x2x2, .f32⟩
  | 16 => ⟨S33554432x2, .f32⟩
  | 17 => ⟨S2048x16384x2, .f32⟩
  | 18 => ⟨S16384x2048x2, .f32⟩
  | 19 => ⟨S1x2048x2, .f32⟩
  | 20 => ⟨S16384x2048x2, .f32⟩
  | 21 => ⟨S16384x2048x2, .f32⟩
  | 22 => ⟨S4x4096x2048x2, .f32⟩
  | _ => ⟨S4x4096x2048x2, .f32⟩

abbrev hbmTy (i : Nat) : BufTy := match i / 128 with
  | 0 => hbmTy0_0 i
  | 1 => hbmTy0_1 i
  | _ => ⟨S4x4096x2048x2, .f32⟩

abbrev bufTy : (tb : Table) → Fin (tcTables nBuf tb) → BufTy
  | .hbm, ⟨i, _⟩ => hbmTy i
  | _, _ => ⟨S4x4096x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_call3_v0 : Ref sig .tc := ⟨.hbm, 73, rfl⟩
abbrev main_call3_v1 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩

abbrev nD : Nat := 1
abbrev τ : Topo := Topo.v7x

variable {F : FTy → Type} [FloatOps F]
-- ==== Proof.Whiten.lean ====
/-
  THE WHITENING MATRIX IN TWO FORMS, over the real numbers.

  A symmetric positive definite matrix `[[a, b], [b, c]]` has the inverse square root `[[W00, W01], [W01, W11]]`. The
  kernel writes it with two square roots (`s = √(ac - b²)` and `√(a + c + 2s)`); the reference writes it through the
  eigenvalues and one unit eigenvector. Here: the two are equal entry by entry, and the covariance of one token, with
  `ε` added to its diagonal, is positive definite.
-/
module

public import Mathlib.Analysis.SpecialFunctions.Pow.Real
public import Mathlib.Tactic.LinearCombination
public import Mathlib.Tactic.FieldSimp
public import Mathlib.Algebra.Order.BigOperators.Ring.Finset

@[expose] public section

noncomputable section

namespace Whiten

/-! ## The closed form -/

/-- The square root of the determinant. -/
def rootDet (a b c : ℝ) : ℝ := √(a * c - b * b)

/-- The factor the three entries share: `1 / (s √(a + c + 2s))`, in the kernel's order of operations. -/
def factor (a b c : ℝ) : ℝ := (√(a + c + 2 * rootDet a b c))⁻¹ * (rootDet a b c)⁻¹

/-- The first diagonal entry of the inverse square root. -/
def w00 (a b c : ℝ) : ℝ := (c + rootDet a b c) * factor a b c
/-- The second diagonal entry. -/
def w11 (a b c : ℝ) : ℝ := (a + rootDet a b c) * factor a b c
/-- The entry off the diagonal. -/
def w01 (a b c : ℝ) : ℝ := (0 - b) * factor a b c

/-! ## The spectral form -/

/-- Half the distance of the two eigenvalues. -/
def gap (a b c : ℝ) : ℝ := √((a - c) / 2 * ((a - c) / 2) + b * b)

/-- The mean of the two eigenvalues. -/
def mid (a c : ℝ) : ℝ := (a + c) / 2

/-- `(vx, vy)` is a unit eigenvector of the larger eigenvalue, stated without a quotient: it holds of every unit vector
    when the eigenvalues are equal. -/
structure Eigen (a b c vx vy : ℝ) : Prop where
  unit : vx * vx + vy * vy = 1
  xx : 2 * gap a b c * (vx * vx) = gap a b c + (a - c) / 2
  xy : 2 * gap a b c * (vx * vy) = b
  yy : 2 * gap a b c * (vy * vy) = gap a b c - (a - c) / 2

theorem gap_sq (a b c : ℝ) : gap a b c * gap a b c = (a - c) / 2 * ((a - c) / 2) + b * b :=
  Real.mul_self_sqrt (by nlinarith [mul_self_nonneg ((a - c) / 2), mul_self_nonneg b])

theorem gap_nonneg (a b c : ℝ) : 0 ≤ gap a b c := Real.sqrt_nonneg _

/-- No gap: the matrix is a multiple of the identity, and every unit vector is an eigenvector. -/
theorem eigen_of_gap_eq_zero {a b c : ℝ} (h : gap a b c = 0) : Eigen a b c 1 0 := by
  have hs := gap_sq a b c
  rw [h] at hs
  have hb : b = 0 := by nlinarith [mul_self_nonneg ((a - c) / 2), mul_self_nonneg b]
  have hh : (a - c) / 2 = 0 := by nlinarith [mul_self_nonneg ((a - c) / 2), mul_self_nonneg b]
  exact ⟨by ring, by rw [h, hh]; ring, by rw [h, hb]; ring, by rw [h, hh]; ring⟩

/-- A vector `(p, q)` whose squares and product stand in the eigenvector's ratios becomes the eigenvector on division by
    its length `n`. -/
theorem eigen_of_scaled {a b c p q n : ℝ} (hn : n ≠ 0) (hnn : n * n = p * p + q * q)
    (hxx : 2 * gap a b c * (p * p) = (gap a b c + (a - c) / 2) * (n * n))
    (hxy : 2 * gap a b c * (p * q) = b * (n * n)) : Eigen a b c (p * n⁻¹) (q * n⁻¹) := by
  have h1 : n⁻¹ * n⁻¹ * (n * n) = 1 := by field_simp
  have hu : p * n⁻¹ * (p * n⁻¹) + q * n⁻¹ * (q * n⁻¹) = 1 := by
    rw [← h1, hnn]; ring
  have hx : 2 * gap a b c * (p * n⁻¹ * (p * n⁻¹)) = gap a b c + (a - c) / 2 := by
    calc _ = (2 * gap a b c * (p * p)) * (n⁻¹ * n⁻¹) := by ring
      _ = (gap a b c + (a - c) / 2) * (n⁻¹ * n⁻¹ * (n * n)) := by rw [hxx]; ring
      _ = _ := by rw [h1, mul_one]
  refine ⟨hu, hx, ?_, ?_⟩
  · calc _ = (2 * gap a b c * (p * q)) * (n⁻¹ * n⁻¹) := by ring
      _ = b * (n⁻¹ * n⁻¹ * (n * n)) := by rw [hxy]; ring
      _ = _ := by rw [h1, mul_one]
  · linear_combination 2 * gap a b c * hu - hx

/-- The eigenvector the reference builds where `0 ≤ a - c`. -/
theorem eigen_of_nonneg {a b c : ℝ} (hg : gap a b c ≠ 0) (hh : 0 ≤ (a - c) / 2) :
    Eigen a b c (((a - c) / 2 + gap a b c) * (√(((a - c) / 2 + gap a b c) * ((a - c) / 2 + gap a b c) + b * b))⁻¹)
      (b * (√(((a - c) / 2 + gap a b c) * ((a - c) / 2 + gap a b c) + b * b))⁻¹) := by
  have hg0 : 0 < gap a b c := lt_of_le_of_ne (gap_nonneg a b c) (Ne.symm hg)
  have hs := gap_sq a b c
  have hpos : 0 < ((a - c) / 2 + gap a b c) * ((a - c) / 2 + gap a b c) + b * b := by
    nlinarith [mul_self_nonneg b, mul_pos (add_pos_of_nonneg_of_pos hh hg0) (add_pos_of_nonneg_of_pos hh hg0)]
  have hn := Real.mul_self_sqrt hpos.le
  refine eigen_of_scaled (Real.sqrt_ne_zero'.mpr hpos) hn ?_ ?_
  · rw [hn]; linear_combination ((a - c) / 2 + gap a b c) * hs
  · rw [hn]; linear_combination b * hs

/-- The eigenvector the reference builds where `a - c < 0`. -/
theorem eigen_of_neg {a b c : ℝ} (hg : gap a b c ≠ 0) (hh : (a - c) / 2 < 0) :
    Eigen a b c (b * (√(b * b + (gap a b c - (a - c) / 2) * (gap a b c - (a - c) / 2)))⁻¹)
      ((gap a b c - (a - c) / 2) * (√(b * b + (gap a b c - (a - c) / 2) * (gap a b c - (a - c) / 2)))⁻¹) := by
  have hg0 : 0 < gap a b c := lt_of_le_of_ne (gap_nonneg a b c) (Ne.symm hg)
  have hs := gap_sq a b c
  have hpos : 0 < b * b + (gap a b c - (a - c) / 2) * (gap a b c - (a - c) / 2) := by
    have : 0 < gap a b c - (a - c) / 2 := by linarith
    nlinarith [mul_self_nonneg b, mul_pos this this]
  have hn := Real.mul_self_sqrt hpos.le
  refine eigen_of_scaled (Real.sqrt_ne_zero'.mpr hpos) hn ?_ ?_
  · rw [hn]; linear_combination (-(gap a b c - (a - c) / 2)) * hs
  · rw [hn]; linear_combination b * hs

/-! ## The two forms are equal -/

variable {a b c : ℝ}

theorem rootDet_sq (hd : 0 < a * c - b * b) : rootDet a b c * rootDet a b c = a * c - b * b :=
  Real.mul_self_sqrt hd.le

/-- The smaller eigenvalue is positive. -/
theorem low_pos (ha : 0 < a) (hc : 0 < c) (hd : 0 < a * c - b * b) : 0 < mid a c - gap a b c := by
  have hs := gap_sq a b c
  have hm : 0 < mid a c := by unfold mid; linarith
  have : gap a b c < mid a c := by
    apply lt_of_mul_self_lt_mul_self₀ hm.le
    unfold mid; rw [hs]; nlinarith
  linarith

theorem high_pos (ha : 0 < a) (hc : 0 < c) : 0 < mid a c + gap a b c := by
  have := gap_nonneg a b c
  unfold mid; linarith

/-- With `α`, `β` the square roots of the eigenvalues: `αβ` is the root of the determinant, and the shared factor is
    `1 / (αβ(α + β))`. -/
theorem factor_eq (ha : 0 < a) (hc : 0 < c) (hd : 0 < a * c - b * b) :
    rootDet a b c = √(mid a c - gap a b c) * √(mid a c + gap a b c) ∧
      factor a b c = (√(mid a c - gap a b c) + √(mid a c + gap a b c))⁻¹ *
        (√(mid a c - gap a b c) * √(mid a c + gap a b c))⁻¹ := by
  have hl := low_pos ha hc hd
  have hh := high_pos (b := b) ha hc
  have hs := gap_sq a b c
  have h1 : rootDet a b c = √(mid a c - gap a b c) * √(mid a c + gap a b c) := by
    rw [← Real.sqrt_mul hl.le, rootDet]
    congr 1
    unfold mid; linear_combination hs
  refine ⟨h1, ?_⟩
  unfold factor
  have h2 : a + c + 2 * rootDet a b c = (√(mid a c - gap a b c) + √(mid a c + gap a b c)) ^ 2 := by
    have e1 := Real.mul_self_sqrt hl.le
    have e2 := Real.mul_self_sqrt hh.le
    rw [h1]
    have : a + c = (mid a c - gap a b c) + (mid a c + gap a b c) := by unfold mid; ring
    rw [this]
    linear_combination -e1 - e2
  rw [h2, Real.sqrt_sq (by positivity), h1]

/-- The inverse square root through the eigenvalues, first diagonal entry. -/
theorem w00_eq {vx vy : ℝ} (ha : 0 < a) (hc : 0 < c) (hd : 0 < a * c - b * b) (he : Eigen a b c vx vy) :
    (√(mid a c - gap a b c))⁻¹ * (vy * vy) + (√(mid a c + gap a b c))⁻¹ * (vx * vx) = w00 a b c := by
  obtain ⟨h1, h2⟩ := factor_eq ha hc hd
  have hα := Real.sqrt_pos.mpr (low_pos ha hc hd)
  have hβ := Real.sqrt_pos.mpr (high_pos (b := b) ha hc)
  have e1 := Real.mul_self_sqrt (low_pos ha hc hd).le
  have e2 := Real.mul_self_sqrt (high_pos (b := b) ha hc).le
  unfold w00
  rw [h1, h2]
  generalize √(mid a c - gap a b c) = α at *
  generalize √(mid a c + gap a b c) = β at *
  have hm : mid a c - (a - c) / 2 = c := by unfold mid; ring
  field_simp
  linear_combination (vy * vy) * e2 + (vx * vx) * e1 + (α * β + mid a c) * he.unit +
    (1 / 2) * he.yy - (1 / 2) * he.xx + hm

/-- The second diagonal entry. -/
theorem w11_eq {vx vy : ℝ} (ha : 0 < a) (hc : 0 < c) (hd : 0 < a * c - b * b) (he : Eigen a b c vx vy) :
    (√(mid a c - gap a b c))⁻¹ * (vx * vx) + (√(mid a c + gap a b c))⁻¹ * (vy * vy) = w11 a b c := by
  obtain ⟨h1, h2⟩ := factor_eq ha hc hd
  have hα := Real.sqrt_pos.mpr (low_pos ha hc hd)
  have hβ := Real.sqrt_pos.mpr (high_pos (b := b) ha hc)
  have e1 := Real.mul_self_sqrt (low_pos ha hc hd).le
  have e2 := Real.mul_self_sqrt (high_pos (b := b) ha hc).le
  unfold w11
  rw [h1, h2]
  generalize √(mid a c - gap a b c) = α at *
  generalize √(mid a c + gap a b c) = β at *
  have hm : mid a c + (a - c) / 2 = a := by unfold mid; ring
  field_simp
  linear_combination (vx * vx) * e2 + (vy * vy) * e1 + (α * β + mid a c) * he.unit +
    (1 / 2) * he.xx - (1 / 2) * he.yy + hm

/-- The entry off the diagonal. -/
theorem w01_eq {vx vy : ℝ} (ha : 0 < a) (hc : 0 < c) (hd : 0 < a * c - b * b) (he : Eigen a b c vx vy) :
    (√(mid a c + gap a b c))⁻¹ * (vx * vy) - (√(mid a c - gap a b c))⁻¹ * (vx * vy) = w01 a b c := by
  obtain ⟨h1, h2⟩ := factor_eq ha hc hd
  have hα := Real.sqrt_pos.mpr (low_pos ha hc hd)
  have hβ := Real.sqrt_pos.mpr (high_pos (b := b) ha hc)
  have e1 := Real.mul_self_sqrt (low_pos ha hc hd).le
  have e2 := Real.mul_self_sqrt (high_pos (b := b) ha hc).le
  unfold w01
  rw [h2]
  generalize √(mid a c - gap a b c) = α at *
  generalize √(mid a c + gap a b c) = β at *
  field_simp
  linear_combination (vx * vy) * e1 - (vx * vy) * e2 - he.xy

/-! ## The covariance of a token -/

variable {n : ℕ} (u v : Fin n → ℝ)

/-- The centred sum of products of `u` and `v` is the sum of products less `n` times the product of the means. -/
theorem centred (N mu mv : ℝ) (hN : (n : ℝ) = N) (hmu : ∑ i, u i = N * mu) (hmv : ∑ i, v i = N * mv) :
    ∑ i, (u i - mu) * (v i - mv) = ∑ i, u i * v i - N * mu * mv := by
  have : ∀ i, (u i - mu) * (v i - mv) = u i * v i - mv * u i - mu * v i + mu * mv := fun i => by ring
  simp only [this, Finset.sum_add_distrib, Finset.sum_sub_distrib, ← Finset.mul_sum, hmu, hmv, Finset.sum_const,
    Finset.card_univ, Fintype.card_fin, nsmul_eq_mul, hN]
  ring

/-- A positive multiple of a Gram matrix with `ε > 0` added to the diagonal is positive definite. -/
theorem gram_pos (k ε : ℝ) (hk : 0 ≤ k) (hε : 0 < ε) :
    0 < (∑ i, u i * u i) * k + ε ∧ 0 < (∑ i, v i * v i) * k + ε ∧
      0 < ((∑ i, u i * u i) * k + ε) * ((∑ i, v i * v i) * k + ε) - (∑ i, u i * v i) * k * ((∑ i, u i * v i) * k) := by
  have hu : 0 ≤ (∑ i, u i * u i) * k := mul_nonneg (Finset.sum_nonneg fun i _ => mul_self_nonneg _) hk
  have hv : 0 ≤ (∑ i, v i * v i) * k := mul_nonneg (Finset.sum_nonneg fun i _ => mul_self_nonneg _) hk
  have hcs : (∑ i, u i * v i) ^ 2 ≤ (∑ i, u i ^ 2) * (∑ i, v i ^ 2) := Finset.sum_mul_sq_le_sq_mul_sq _ _ _
  simp only [pow_two] at hcs
  refine ⟨by linarith, by linarith, ?_⟩
  have hcs' := mul_le_mul_of_nonneg_right hcs (mul_nonneg hk hk)
  nlinarith [mul_pos hε hε, mul_nonneg hu hε.le, mul_nonneg hv hε.le]

end Whiten
-- ==== Proof.IdealReal.lean ====
/-
  REAL VALUES IN THE EXTENDED REALS: the operations of the two programs, at the extended reals, on operands that are real
  numbers, give the real operation's value; and the real numbers the programs' constants stand for.
-/
module

public import Idealize.ShloMosaic.Lib.Pointwise
public import Idealize.ShloMosaic.Lib.IdealHost

@[expose] public section

noncomputable section

namespace IdealReal

open Idealize.ShloMosaic

/-- A finite sum of real numbers is the same taken in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

theorem div_real {x y : ℝ} (hy : y ≠ 0) : Ideal.div (x : EReal) (y : EReal) = ((x * y⁻¹ : ℝ) : EReal) := by
  rw [Ideal.div_coe hy, ← EReal.coe_mul, one_div]

theorem sqrt_real {x : ℝ} (hx : 0 ≤ x) : Ideal.sqrt (x : EReal) = ((√x : ℝ) : EReal) := by
  rw [Ideal.sqrt_coe, if_neg (not_lt.mpr hx)]

theorem rsqrt_real {x : ℝ} (hx : 0 < x) : Ideal.rsqrt (x : EReal) = (((√x)⁻¹ : ℝ) : EReal) := by
  rw [Ideal.rsqrt_coe, if_neg (not_lt.mpr hx.le), if_neg hx.ne']

/-- The constant both programs add to the diagonal: the binary32 number nearest to 0.00001. -/
def eps : ℝ := 10995116 / 2 ^ 40

theorem eps_pos : 0 < eps := by unfold eps; norm_num

theorem bits_eps : Ideal.ofBits .f32 0x3727C5AC#32 = ((eps : ℝ) : EReal) := by
  simp [Ideal.ofBits, Ideal.ieee, -EReal.coe_mul, eps]
  norm_num

theorem bits_2048 : Ideal.ofBits .f32 0x45000000#32 = ((2048 : ℝ) : EReal) := by
  simp [Ideal.ofBits, Ideal.ieee, -EReal.coe_mul]
  norm_num

theorem bits_2047 : Ideal.ofBits .f32 0x44FFE000#32 = ((2047 : ℝ) : EReal) := by
  simp [Ideal.ofBits, Ideal.ieee, -EReal.coe_mul]
  norm_num

theorem bits_2 : Ideal.ofBits .f32 0x40000000#32 = ((2 : ℝ) : EReal) := by
  simp [Ideal.ofBits, Ideal.ieee, -EReal.coe_mul]
  norm_num

theorem bits_1 : Ideal.ofBits .f32 0x3F800000#32 = ((1 : ℝ) : EReal) := by
  simp [Ideal.ofBits, Ideal.ieee, -EReal.coe_mul]
  norm_num

theorem bits_half : Ideal.ofBits .f32 0x3F000000#32 = ((2⁻¹ : ℝ) : EReal) := by
  simp [Ideal.ofBits, Ideal.ieee, -EReal.coe_mul]
  norm_num

theorem bits_0 : Ideal.ofBits .f32 0x00000000#32 = ((0 : ℝ) : EReal) := by simp

theorem bits_inf : Ideal.ofBits .f32 0x7F800000#32 = ⊤ := by
  simp [Ideal.ofBits, Ideal.ieee]

end IdealReal
-- ==== Proof.Token.lean ====
/-
  ONE TOKEN, over the real numbers: `u`, `v` are the real and imaginary parts of its 2048 entries, `g` the three numbers
  of its gain. What the kernel computes from them, in the kernel's order: the means, the covariance from the raw moments,
  the inverse square root in closed form, the gain times it, the offset.
-/
module

public import proofs.«01_k».proof.Proof.Whiten
public import proofs.«01_k».proof.Proof.IdealReal

@[expose] public section

noncomputable section

namespace Token

open IdealReal Whiten

variable (u v : Fin 2048 → ℝ) (g : Fin 3 → ℝ)

/-- The mean of the 2048 entries. -/
def mean : ℝ := (∑ d, u d) * 2048⁻¹

/-- The covariance from the raw moments, with divisor 2047. -/
def cov : ℝ := ((∑ d, u d * v d) - 2048 * mean u * mean v) * 2047⁻¹

/-- The variance with `eps` added. -/
def var : ℝ := cov u u + eps

/-- The gain times the inverse square root: the entry of the first row and first column. -/
def m00 : ℝ := g 0 * w00 (var u) (cov u v) (var v) + g 1 * w01 (var u) (cov u v) (var v)
/-- First row, second column. -/
def m01 : ℝ := g 0 * w01 (var u) (cov u v) (var v) + g 1 * w11 (var u) (cov u v) (var v)
/-- Second row, first column. -/
def m10 : ℝ := g 1 * w00 (var u) (cov u v) (var v) + g 2 * w01 (var u) (cov u v) (var v)
/-- Second row, second column. -/
def m11 : ℝ := g 1 * w01 (var u) (cov u v) (var v) + g 2 * w11 (var u) (cov u v) (var v)

/-- The constant part of the real output. -/
def offRe : ℝ := 0 - (m00 u v g * mean u + m01 u v g * mean v)
/-- The constant part of the imaginary output. -/
def offIm : ℝ := 0 - (m10 u v g * mean u + m11 u v g * mean v)

/-- The real part of the kernel's output at entry `d`, before the bias. -/
def outRe (d : Fin 2048) : ℝ := m00 u v g * u d + m01 u v g * v d + offRe u v g
/-- The imaginary part of the kernel's output at entry `d`, before the bias. -/
def outIm (d : Fin 2048) : ℝ := m11 u v g * v d + m10 u v g * u d + offIm u v g

/-- The covariance from the raw moments is the centred one. -/
theorem cov_eq_centred : cov u v = (∑ d, (u d - mean u) * (v d - mean v)) * 2047⁻¹ := by
  rw [centred u v 2048 (mean u) (mean v) (by norm_num) (by unfold mean; ring) (by unfold mean; ring)]
  rfl

theorem cov_comm : cov u v = cov v u := by
  unfold cov
  simp only [mul_comm (u _) (v _)]
  ring

/-- The covariance matrix with `eps` on its diagonal is positive definite. -/
theorem var_pos : 0 < var u ∧ 0 < var v ∧ 0 < var u * var v - cov u v * cov u v := by
  unfold var
  rw [cov_eq_centred u u, cov_eq_centred v v, cov_eq_centred u v]
  exact gram_pos (fun d => u d - mean u) (fun d => v d - mean v) 2047⁻¹ eps (by norm_num) eps_pos

/-- The square root of the determinant is positive. -/
theorem rootDet_pos : 0 < rootDet (var u) (cov u v) (var v) := Real.sqrt_pos.mpr (var_pos u v).2.2

/-! ## The kernel's layout of a token -/

variable {α : Type} (p q : Fin 2048 → α)

/-- A token as the kernel holds it: 32 rows of 128 lanes, real parts in the even rows and imaginary parts in the odd. -/
def row (r : Fin 32) (l : Fin 128) : α :=
  if r.val % 2 = 0 then p ⟨128 * (r.val / 2) + l.val, by omega⟩ else q ⟨128 * (r.val / 2) + l.val, by omega⟩

/-- A function of a token's numbers, in the kernel's layout. -/
theorem row_map {β : Type} (f : α → β) (r : Fin 32) (l : Fin 128) :
    row (fun d => f (p d)) (fun d => f (q d)) r l = f (row p q r l) := by
  unfold row
  split_ifs <;> rfl

/-- The product of two tokens in the kernel's layout, row by row. -/
theorem row_mul [Mul α] (p' q' : Fin 2048 → α) (r : Fin 32) (l : Fin 128) :
    row p q r l * row p' q' r l = row (fun d => p d * p' d) (fun d => q d * q' d) r l := by
  unfold row
  split_ifs <;> rfl

/-- The row next to row `k + r`, within its slab of eight: the one below an even row, the one above an odd row. It holds
    the other part of the same entries. -/
theorem row_swap (k : ℕ) (r : Fin 8) (hk : k + 7 < 32) (hk8 : k % 8 = 0) (l : Fin 128) :
    (if r.val % 2 = 0 then row p q ⟨k + (r.val + 8 - 7) % 8, by omega⟩ l
      else row p q ⟨k + (r.val + 8 - 1) % 8, by omega⟩ l) = row q p ⟨k + r.val, by omega⟩ l := by
  have := r.isLt
  unfold row
  split_ifs <;> first | (exfalso; dsimp only at *; omega) | (congr 2; dsimp only at *; omega)

section
variable {M : Type} [AddCommMonoid M] (p q : Fin 2048 → M)

/-- A sum over the 2048 entries, chunk by chunk. -/
theorem sum_chunks (f : Fin 2048 → M) :
    ∑ d, f d = ∑ c : Fin 16, ∑ l : Fin 128, f ⟨128 * c.val + l.val, by omega⟩ := by
  rw [← Fintype.sum_prod_type', ← (finProdFinEquiv (m := 16) (n := 128)).sum_comp]
  refine Finset.sum_congr rfl fun p _ => congrArg f (Fin.ext ?_)
  simp [finProdFinEquiv, add_comm]

/-- The four rows of 128 lanes that the kernel adds first: row `r` of each of its four slabs of eight. -/
def slabs (r : Fin 8) (l : Fin 128) : M :=
  row p q ⟨r.val, by omega⟩ l + row p q ⟨8 + r.val, by omega⟩ l +
    (row p q ⟨16 + r.val, by omega⟩ l + row p q ⟨24 + r.val, by omega⟩ l)

/-- The even rows of the slabs hold the real parts. -/
theorem sum_even : ∑ r : Fin 8, ∑ l : Fin 128, (if r.val % 2 = 0 then slabs p q r l else 0) = ∑ d, p d := by
  rw [sum_chunks]
  refine Finset.sum_comm.trans ((Finset.sum_congr rfl fun l _ => ?_).trans Finset.sum_comm)
  simp [Fin.sum_univ_succ, slabs, row]
  abel

/-- All rows of the slabs. -/
theorem sum_all : ∑ r : Fin 8, ∑ l : Fin 128, slabs p q r l = ∑ d, p d + ∑ d, q d := by
  rw [sum_chunks, sum_chunks, ← Finset.sum_add_distrib]
  simp only [← Finset.sum_add_distrib]
  refine Finset.sum_comm.trans ((Finset.sum_congr rfl fun l _ => ?_).trans Finset.sum_comm)
  simp [Fin.sum_univ_succ, slabs, row]
  abel

end

end Token
-- ==== Proof.BlockSums.lean ====
/-
  ONE BLOCK OF THE KERNEL, its sums: the five sums the kernel takes over a token's 32 rows of 128 lanes, as sums over
  its 2048 entries, whether these are real numbers or infinite.
-/
module

public import proofs.«01_k».proof.Proof.Gen.KernelIdeal.Frame
public import proofs.«01_k».proof.Proof.Token
public import Idealize.ShloMosaic.Lib.Pointwise
public import Idealize.ShloMosaic.Lib.Pipeline.Value

@[expose] public section

noncomputable section

namespace Cert.KernelIdeal.Block

open Idealize.ShloMosaic Cert.KernelIdeal Cert.KernelIdeal.Gen IdealReal Token

variable (x0 : Vec Ideal S256x32x128 .f32) (x1 : Vec Ideal S256x3 .f32) (x2 : Vec Ideal S1x32x128 .f32)

/-- The body reads its block of tokens whole. -/
theorem ld_x : View.ld x0 r0_0 = x0 := by
  unfold r0_0
  exact View.ld_unit_zero (by decide) _ _

theorem pay51_eq : k0_pay51 x0 x1 x2 = x0 := by
  unfold k0_pay51 k0_pay3
  rw [ld_x, shapeCast_self]

/-- The mask of even rows. -/
theorem even_mask (r : Fin 8) : k0_pay4 (ix3 0 r 0) = if r.val % 2 = 0 then 1#1 else 0#1 := by
  pointwise [k0_pay4]
  revert r; decide

theorem even_bit (r : Fin 8) : (k0_pay52 x0 x1 x2) (ix3 0 r 0) = if r.val % 2 = 0 then 1#1 else 0#1 := even_mask r

/-- The mask as a number: one in an even row, zero in an odd one. -/
theorem even_num (r : Fin 8) : FloatOps.sitofp (F := Ideal) FTy.f32 (BitVec.setWidth 32 (if r.val % 2 = 0 then 1#1 else 0#1)) =
    (((if r.val % 2 = 0 then 1 else 0 : ℝ)) : EReal) := by
  split_ifs
  · change (((1#32).toInt : ℝ) : EReal) = ((1 : ℝ) : EReal)
    norm_num
  · change (((0#32).toInt : ℝ) : EReal) = ((0 : ℝ) : EReal)
    norm_num

/-- A choice by the mask is a choice by the row's parity. -/
theorem select_even {α : Type} (r : Fin 8) (p q : α) :
    Scalar.select (if r.val % 2 = 0 then 1#1 else 0#1) p q = if r.val % 2 = 0 then p else q := by
  split_ifs <;> rfl

/-- A number times the mask: itself in an even row, zero in an odd one, whatever the number. -/
theorem mul_even (r : Fin 8) (z : EReal) :
    z * (((if r.val % 2 = 0 then 1 else 0 : ℝ)) : EReal) = if r.val % 2 = 0 then z else 0 := by
  split_ifs <;> simp

variable {x0} {a : Fin 256} {U V : Fin 2048 → EReal} (hx : ∀ r l, x0 (ix3 a r l) = row U V r l)
include hx

/-- The sum the kernel takes for the imaginary parts: that of all rows, less that of the even rows. -/
theorem sum_im : k0_pay58 x0 x1 x2 (ix2 a 0) = ∑ d, U d + ∑ d, V d - ∑ d, U d := by
  pointwise [k0_pay58, k0_pay18, k0_pay17, k0_pay16, k0_pay14, k0_pay13, k0_pay53, k0_pay5, k0_pay55, k0_pay8, k0_pay57,
    k0_pay11, k0_pay3, ld_x, even_bit, pay51_eq, hx, even_num, mul_even]
  exact congrArg₂ (· - ·) (sum_all U V) (sum_even U V)

/-- The mean of the real parts. -/
theorem mean_re : k0_pay62 x0 x1 x2 (ix2 a 0) = Ideal.div (∑ d, U d) (2048 : ℝ) := by
  pointwise [k0_pay62, k0_pay23, k0_pay17, k0_pay16, k0_pay14, k0_pay13, k0_pay53, k0_pay5, k0_pay55, k0_pay8, k0_pay57,
    k0_pay11, k0_pay3, ld_x, even_bit, pay51_eq, hx, even_num, mul_even]
  rw [bits_2048]
  exact congrArg (Ideal.div · _) (sum_even U V)

/-- The sum of the squares of the real parts. -/
theorem sum_rr : k0_pay59 x0 x1 x2 (ix2 a 0) = ∑ d, U d * U d := by
  pointwise [k0_pay59, k0_pay19, k0_pay16, k0_pay15, k0_pay13, k0_pay54, k0_pay6, k0_pay5, k0_pay56, k0_pay9, k0_pay8,
    k0_pay57, k0_pay11, k0_pay3, ld_x, even_bit, pay51_eq, hx, even_num, mul_even, row_mul]
  exact sum_even _ _

/-- The sum the kernel takes for the squares of the imaginary parts. -/
theorem sum_ii : k0_pay60 x0 x1 x2 (ix2 a 0) = ∑ d, U d * U d + ∑ d, V d * V d - ∑ d, U d * U d := by
  pointwise [k0_pay60, k0_pay20, k0_pay19, k0_pay16, k0_pay15, k0_pay13, k0_pay54, k0_pay6, k0_pay5, k0_pay56, k0_pay9, k0_pay8,
    k0_pay57, k0_pay11, k0_pay3, ld_x, even_bit, pay51_eq, hx, even_num, mul_even, row_mul]
  exact congrArg₂ (· - ·) (sum_all _ _) (sum_even _ _)

/-- Half the sum over all rows of a row times its neighbour: each product of a real and an imaginary part, twice. -/
theorem sum_ri : k0_pay61 x0 x1 x2 (ix2 a 0) = ((2⁻¹ : ℝ) : EReal) * (∑ d, U d * V d + ∑ d, V d * U d) := by
  pointwise [k0_pay61, k0_pay21, k0_pay7, k0_pay10, k0_pay12, k0_pay13, k0_pay5, k0_pay8, k0_pay57,
    k0_pay11, k0_pay3, ld_x, even_mask, even_bit, pay51_eq, hx, select_even]
  have s0 := fun (r : Fin 8) l => row_swap U V 0 r (by norm_num) (by norm_num) l
  simp only [Nat.zero_add] at s0
  simp only [s0, fun (r : Fin 8) l => row_swap U V 8 r (by norm_num) (by norm_num) l,
    fun (r : Fin 8) l => row_swap U V 16 r (by norm_num) (by norm_num) l,
    fun (r : Fin 8) l => row_swap U V 24 r (by norm_num) (by norm_num) l, row_mul, bits_half]
  exact congrArg _ (sum_all _ _)

end Cert.KernelIdeal.Block
-- ==== Proof.BlockMatrix.lean ====
/-
  ONE BLOCK OF THE KERNEL, the matrix of a token of real numbers: from the sums of `BlockSums` the covariance, its inverse
  square root, the gain times it and the offset.
-/
module

public import proofs.«01_k».proof.Proof.BlockSums

@[expose] public section

noncomputable section

namespace Cert.KernelIdeal.Block

open Idealize.ShloMosaic Cert.KernelIdeal Cert.KernelIdeal.Gen IdealReal Token Whiten

/-- The reciprocal of 2047, computed by the body as `1 / (2048 - 1)`. -/
theorem inv_2047 : k0_pay22 (F := Ideal) = (((2047 : ℝ)⁻¹ : ℝ) : EReal) := by
  have h : k0_pay22 (F := Ideal) = Ideal.div (Ideal.ofBits .f32 0x3F800000#32)
    (Ideal.ofBits .f32 0x45000000#32 - Ideal.ofBits .f32 0x3F800000#32) := rfl
  rw [h, bits_1, bits_2048, ← EReal.coe_sub, div_real (by norm_num)]
  norm_num

variable {x0 : Vec Ideal S256x32x128 .f32} {x1 : Vec Ideal S256x3 .f32} (x2 : Vec Ideal S1x32x128 .f32)
variable {a : Fin 256} {u v : Fin 2048 → ℝ} (hx : ∀ r l, x0 (ix3 a r l) = ((row u v r l : ℝ) : EReal))

section
include hx

/-! ### The sums of a token of real numbers -/

theorem rows_real (r : Fin 32) (l : Fin 128) :
    x0 (ix3 a r l) = row (fun d => ((u d : ℝ) : EReal)) (fun d => ((v d : ℝ) : EReal)) r l :=
  (hx r l).trans (row_map u v (fun z : ℝ => (z : EReal)) r l).symm

theorem sum_im_real : k0_pay58 x0 x1 x2 (ix2 a 0) = ((∑ d, v d : ℝ) : EReal) := by
  rw [sum_im x1 x2 (rows_real hx)]
  simp only [coe_sum, ← EReal.coe_add, ← EReal.coe_sub, add_sub_cancel_left]

theorem mean_re_real : k0_pay62 x0 x1 x2 (ix2 a 0) = ((mean u : ℝ) : EReal) := by
  rw [mean_re x1 x2 (rows_real hx), coe_sum, div_real (by norm_num)]
  rfl

theorem sum_rr_real : k0_pay59 x0 x1 x2 (ix2 a 0) = ((∑ d, u d * u d : ℝ) : EReal) := by
  rw [sum_rr x1 x2 (rows_real hx)]
  simp only [← EReal.coe_mul, coe_sum]

theorem sum_ii_real : k0_pay60 x0 x1 x2 (ix2 a 0) = ((∑ d, v d * v d : ℝ) : EReal) := by
  rw [sum_ii x1 x2 (rows_real hx)]
  simp only [← EReal.coe_mul, coe_sum, ← EReal.coe_add, ← EReal.coe_sub, add_sub_cancel_left]

theorem sum_ri_real : k0_pay61 x0 x1 x2 (ix2 a 0) = ((∑ d, u d * v d : ℝ) : EReal) := by
  rw [sum_ri x1 x2 (rows_real hx)]
  simp only [← EReal.coe_mul, coe_sum, ← EReal.coe_add]
  simp only [mul_comm (v _) (u _)]
  exact congrArg _ (by ring)

/-! ### The matrix -/

theorem var_re : k0_pay25 (k0_pay59 x0 x1 x2) k0_pay22 (k0_pay62 x0 x1 x2) (ix2 a 0) = ((var u : ℝ) : EReal) := by
  pointwise [k0_pay25, sum_rr_real x2 hx, mean_re_real x2 hx, inv_2047]
  simp only [bits_2048, bits_eps, ← EReal.coe_mul, ← EReal.coe_sub, ← EReal.coe_add]
  rfl

theorem mean_im : k0_pay24 (k0_pay58 x0 x1 x2) (ix2 a 0) = ((mean v : ℝ) : EReal) := by
  pointwise [k0_pay24, sum_im_real x2 hx]
  rw [bits_2048, div_real (by norm_num)]
  rfl

theorem var_im : k0_pay26 (k0_pay58 x0 x1 x2) (k0_pay60 x0 x1 x2) k0_pay22 (ix2 a 0) = ((var v : ℝ) : EReal) := by
  pointwise [k0_pay26, sum_ii_real x2 hx, mean_im x2 hx, inv_2047]
  simp only [bits_2048, bits_eps, ← EReal.coe_mul, ← EReal.coe_sub, ← EReal.coe_add]
  rfl

theorem cov_ri : k0_pay27 (k0_pay58 x0 x1 x2) (k0_pay61 x0 x1 x2) k0_pay22 (k0_pay62 x0 x1 x2) (ix2 a 0) =
    ((cov u v : ℝ) : EReal) := by
  pointwise [k0_pay27, sum_ri_real x2 hx, mean_re_real x2 hx, mean_im x2 hx, inv_2047]
  simp only [bits_2048, ← EReal.coe_mul, ← EReal.coe_sub]
  rfl

/-- The square root of the determinant: its operand is positive. -/
theorem root_det : k0_pay28 (k0_pay58 x0 x1 x2) (k0_pay59 x0 x1 x2) (k0_pay60 x0 x1 x2) (k0_pay61 x0 x1 x2) k0_pay22
    (k0_pay62 x0 x1 x2) (ix2 a 0) = ((rootDet (var u) (cov u v) (var v) : ℝ) : EReal) := by
  pointwise [k0_pay28, var_re x2 hx, var_im x2 hx, cov_ri x2 hx]
  simp only [← EReal.coe_mul, ← EReal.coe_sub]
  exact sqrt_real (var_pos u v).2.2.le

/-- The factor shared by the entries. -/
theorem shared : k0_pay29 (k0_pay58 x0 x1 x2) (k0_pay59 x0 x1 x2) (k0_pay60 x0 x1 x2) (k0_pay61 x0 x1 x2) k0_pay22
    (k0_pay62 x0 x1 x2) (ix2 a 0) = ((factor (var u) (cov u v) (var v) : ℝ) : EReal) := by
  have hr := rootDet_pos u v
  have ht : 0 < var u + var v + 2 * rootDet (var u) (cov u v) (var v) := by
    have := (var_pos u v).1
    have := (var_pos u v).2.1
    linarith
  pointwise [k0_pay29, var_re x2 hx, var_im x2 hx, root_det x2 hx]
  simp only [bits_2, ← EReal.coe_mul, ← EReal.coe_add]
  rw [rsqrt_real ht, div_real hr.ne']
  rfl

theorem entry_00 : k0_pay63 x0 x1 x2 (ix2 a 0) = ((w00 (var u) (cov u v) (var v) : ℝ) : EReal) := by
  pointwise [k0_pay63, k0_pay30, var_im x2 hx, root_det x2 hx, shared x2 hx]
  simp only [← EReal.coe_mul, ← EReal.coe_add]
  rfl

theorem entry_11 : k0_pay64 x0 x1 x2 (ix2 a 0) = ((w11 (var u) (cov u v) (var v) : ℝ) : EReal) := by
  pointwise [k0_pay64, k0_pay31, var_re x2 hx, root_det x2 hx, shared x2 hx]
  simp only [← EReal.coe_mul, ← EReal.coe_add]
  rfl

theorem entry_01 : k0_pay65 x0 x1 x2 (ix2 a 0) = ((w01 (var u) (cov u v) (var v) : ℝ) : EReal) := by
  pointwise [k0_pay65, k0_pay32, cov_ri x2 hx, shared x2 hx]
  rw [w01, EReal.coe_mul, EReal.coe_sub, EReal.coe_zero]

/-- The same two entries where the body names them before it binds them. -/
theorem entry_00' : k0_pay30 (k0_pay58 x0 x1 x2) (k0_pay59 x0 x1 x2) (k0_pay60 x0 x1 x2) (k0_pay61 x0 x1 x2) k0_pay22
    (k0_pay62 x0 x1 x2) (ix2 a 0) = ((w00 (var u) (cov u v) (var v) : ℝ) : EReal) := entry_00 x2 hx

theorem entry_01' : k0_pay32 (k0_pay58 x0 x1 x2) (k0_pay59 x0 x1 x2) (k0_pay60 x0 x1 x2) (k0_pay61 x0 x1 x2) k0_pay22
    (k0_pay62 x0 x1 x2) (ix2 a 0) = ((w01 (var u) (cov u v) (var v) : ℝ) : EReal) := entry_01 x2 hx

variable {g : Fin 3 → ℝ} (hg : ∀ j, x1 (ix2 a j) = ((g j : ℝ) : EReal))
include hg

/-- The factor of an element itself: by the row's parity an entry of the diagonal of the gain times the matrix. -/
theorem own_factor (r : Fin 8) : k0_pay68 x0 x1 x2 (ix3 a r 0) =
    (((if r.val % 2 = 0 then m00 u v g else m11 u v g) : ℝ) : EReal) := by
  pointwise [k0_pay68, k0_pay39, k0_pay35, k0_pay38, k0_pay66, k0_pay67, k0_pay33, k0_pay34, r0_1, r0_2, r0_3, even_bit,
    select_even, hg, entry_00' x2 hx, entry_01' x2 hx, entry_01 x2 hx, entry_11 x2 hx]
  simp only [← EReal.coe_mul, ← EReal.coe_add]
  split_ifs <;> rfl

/-- The factor of the other part of the same entry. -/
theorem other_factor (r : Fin 8) : k0_pay69 x0 x1 x2 (ix3 a r 0) =
    (((if r.val % 2 = 0 then m01 u v g else m10 u v g) : ℝ) : EReal) := by
  pointwise [k0_pay69, k0_pay40, k0_pay36, k0_pay37, r0_1, r0_2, r0_3, even_bit,
    select_even, hg, entry_00 x2 hx, entry_01 x2 hx, entry_11 x2 hx]
  simp only [← EReal.coe_mul, ← EReal.coe_add]
  split_ifs <;> rfl

/-- The constant part. -/
theorem offset (r : Fin 8) : k0_pay70 x0 x1 x2 (ix3 a r 0) =
    (((if r.val % 2 = 0 then offRe u v g else offIm u v g) : ℝ) : EReal) := by
  pointwise [k0_pay70, k0_pay41, k0_pay35, k0_pay36, k0_pay37, k0_pay38, k0_pay66, k0_pay67, k0_pay33, k0_pay34, r0_1, r0_2,
    r0_3, even_bit, select_even, hg, entry_00 x2 hx, entry_01 x2 hx, entry_11 x2 hx, entry_00' x2 hx, entry_01' x2 hx,
    mean_re_real x2 hx, mean_im x2 hx]
  simp only [← EReal.coe_zero, ← EReal.coe_mul, ← EReal.coe_add, ← EReal.coe_sub]
  split_ifs <;> rfl

end

end Cert.KernelIdeal.Block
-- ==== Proof.Infinite.lean ====
/-
  INFINITE VALUES: what sums, squares, quotients and roots are at the extended reals when some of their operands are
  infinite. Infinities of opposite sign add up to minus infinity, a product with zero is zero, and a quotient by an
  infinity is zero.
-/
module

public import proofs.«01_k».proof.Proof.IdealReal

@[expose] public section

noncomputable section

namespace Infinite

open Idealize.ShloMosaic

/-- One of the two infinities. -/
def Inf (z : EReal) : Prop := z = ⊤ ∨ z = ⊥

/-- A value is infinite or a real number. -/
theorem inf_or_real (z : EReal) : Inf z ∨ z = ((z.toReal : ℝ) : EReal) := by
  induction z using EReal.rec with
  | bot => exact Or.inl (Or.inr rfl)
  | top => exact Or.inl (Or.inl rfl)
  | coe r => exact Or.inr (by rw [EReal.toReal_coe])

theorem top_add_inf (z : EReal) : Inf (⊤ + z) := by
  by_cases h : z = ⊥
  · exact Or.inr (by rw [h, EReal.add_bot])
  · exact Or.inl (EReal.top_add_of_ne_bot h)

/-- A sum with an infinite summand is infinite. -/
theorem Inf.add {z : EReal} (h : Inf z) (y : EReal) : Inf (z + y) := by
  rcases h with rfl | rfl
  · exact top_add_inf y
  · exact Or.inr (EReal.bot_add y)

theorem Inf.neg {z : EReal} (h : Inf z) : Inf (-z) := by
  rcases h with rfl | rfl
  · exact Or.inr EReal.neg_top
  · exact Or.inl EReal.neg_bot

/-- An infinite value taken away leaves an infinite value. -/
theorem Inf.sub_right {z : EReal} (h : Inf z) (y : EReal) : Inf (y - z) := by
  rw [sub_eq_add_neg, add_comm]
  exact h.neg.add y

/-- Whatever an infinity is added to before it is taken away again, minus infinity is left. -/
theorem Inf.add_sub_self {z : EReal} (h : Inf z) (y : EReal) : z + y - z = ⊥ := by
  rcases h with rfl | rfl
  · rw [EReal.sub_top]
  · rw [EReal.bot_add, EReal.bot_sub]

/-- A real taken away again leaves the other infinite summand. -/
theorem Inf.real_add_sub {z : EReal} (h : Inf z) (r : ℝ) : (r : EReal) + z - (r : EReal) = z := by
  rcases h with rfl | rfl
  · rw [EReal.coe_add_top, EReal.top_sub_coe]
  · rw [EReal.add_bot, EReal.bot_sub]

/-- The square of an infinity. -/
theorem Inf.mul_self {z : EReal} (h : Inf z) : z * z = ⊤ := by
  rcases h with rfl | rfl
  · exact EReal.top_mul_top
  · exact EReal.bot_mul_bot

theorem Inf.mul {z y : EReal} (h : Inf z) (h' : Inf y) : Inf (z * y) := by
  rcases h with rfl | rfl <;> rcases h' with rfl | rfl
  · exact Or.inl EReal.top_mul_top
  · exact Or.inr EReal.top_mul_bot
  · exact Or.inr EReal.bot_mul_top
  · exact Or.inl EReal.bot_mul_bot

/-- An infinity times a positive real is itself. -/
theorem Inf.mul_pos {z : EReal} (h : Inf z) {r : ℝ} (hr : 0 < r) : z * (r : EReal) = z := by
  rcases h with rfl | rfl
  · exact EReal.top_mul_coe_of_pos hr
  · exact EReal.bot_mul_coe_of_pos hr

theorem Inf.pos_mul {z : EReal} (h : Inf z) {r : ℝ} (hr : 0 < r) : (r : EReal) * z = z := by
  rw [mul_comm, h.mul_pos hr]

/-- An infinity divided by a positive real is itself. -/
theorem Inf.div_pos {z : EReal} (h : Inf z) {r : ℝ} (hr : 0 < r) : Ideal.div z (r : EReal) = z := by
  rw [Ideal.div_coe hr.ne', h.mul_pos (one_div_pos.mpr hr)]

/-- A quotient by an infinity is zero. -/
theorem Inf.div_right {z : EReal} (h : Inf z) (y : EReal) : Ideal.div y z = 0 := by
  have h0 : z ≠ 0 := by rcases h with rfl | rfl <;> simp
  have hi : z⁻¹ = 0 := by
    rcases h with rfl | rfl
    · exact EReal.inv_top
    · exact EReal.inv_bot
  rw [Ideal.div, if_neg h0, hi, mul_zero]

/-- A sum with an infinite summand is infinite. -/
theorem inf_sum {ι : Type} [Fintype ι] [DecidableEq ι] {f : ι → EReal} {i : ι} (h : Inf (f i)) : Inf (∑ j, f j) := by
  rw [← Finset.add_sum_erase _ _ (Finset.mem_univ i)]
  exact h.add _

/-- A square is not negative. -/
theorem mul_self_nonneg (z : EReal) : 0 ≤ z * z := by
  rcases inf_or_real z with h | h
  · rw [h.mul_self]; exact le_top
  · rw [h, ← EReal.coe_mul]
    exact EReal.coe_nonneg.mpr (_root_.mul_self_nonneg _)

theorem top_add_nonneg {z : EReal} (h : 0 ≤ z) : ⊤ + z = ⊤ :=
  EReal.top_add_of_ne_bot (ne_of_gt (lt_of_lt_of_le EReal.bot_lt_zero h))

/-- A sum of squares with an infinite summand. -/
theorem sum_squares {ι : Type} [Fintype ι] [DecidableEq ι] {f : ι → EReal} {i : ι} (h : Inf (f i)) :
    ∑ j, f j * f j = ⊤ := by
  rw [← Finset.add_sum_erase _ _ (Finset.mem_univ i), h.mul_self]
  exact top_add_nonneg (Finset.sum_nonneg fun j _ => mul_self_nonneg _)

end Infinite

end
-- ==== Proof.BlockInfinite.lean ====
/-
  ONE BLOCK OF THE KERNEL, a token with an infinite entry: the determinant of its matrix comes out as minus infinity,
  the factor that the matrix's entries share is a quotient by its root and so zero, and the output is the shift alone.
-/
module

public import proofs.«01_k».proof.Proof.BlockMatrix
public import proofs.«01_k».proof.Proof.Infinite

@[expose] public section

noncomputable section

namespace Cert.KernelIdeal.Block

open Idealize.ShloMosaic Cert.KernelIdeal Cert.KernelIdeal.Gen IdealReal Token Whiten Infinite

variable {x0 : Vec Ideal S256x32x128 .f32} (x1 : Vec Ideal S256x3 .f32) (x2 : Vec Ideal S1x32x128 .f32)
variable {a : Fin 256}

/-! ## The determinant -/

/-- The operand of the root, from the means and the sums. -/
theorem root_operand : k0_pay28 (k0_pay58 x0 x1 x2) (k0_pay59 x0 x1 x2) (k0_pay60 x0 x1 x2) (k0_pay61 x0 x1 x2) k0_pay22
    (k0_pay62 x0 x1 x2) (ix2 a 0) = Ideal.sqrt
      (k0_pay25 (k0_pay59 x0 x1 x2) k0_pay22 (k0_pay62 x0 x1 x2) (ix2 a 0) *
        k0_pay26 (k0_pay58 x0 x1 x2) (k0_pay60 x0 x1 x2) k0_pay22 (ix2 a 0) -
      k0_pay27 (k0_pay58 x0 x1 x2) (k0_pay61 x0 x1 x2) k0_pay22 (k0_pay62 x0 x1 x2) (ix2 a 0) *
        k0_pay27 (k0_pay58 x0 x1 x2) (k0_pay61 x0 x1 x2) k0_pay22 (k0_pay62 x0 x1 x2) (ix2 a 0)) := by
  pointwise [k0_pay28]

/-- A variance from an infinite mean: minus infinity, whatever the sum of squares. -/
theorem var_bot {μ : EReal} (h : Inf μ) (q : EReal) :
    (q - ((2048 : ℝ) : EReal) * μ * μ) * (((2047 : ℝ)⁻¹ : ℝ) : EReal) + ((eps : ℝ) : EReal) = ⊥ := by
  rw [h.pos_mul (by norm_num), h.mul_self, EReal.sub_top, EReal.bot_mul_coe_of_pos (by norm_num), EReal.bot_add]

/-- The mean of the imaginary parts. -/
theorem mean_im_inf (h : Inf (k0_pay58 x0 x1 x2 (ix2 a 0))) : Inf (k0_pay24 (k0_pay58 x0 x1 x2) (ix2 a 0)) := by
  pointwise [k0_pay24]
  rw [bits_2048, h.div_pos (by norm_num)]
  exact h

/-- The variance of the imaginary parts. -/
theorem var_im_bot (h : Inf (k0_pay58 x0 x1 x2 (ix2 a 0))) :
    k0_pay26 (k0_pay58 x0 x1 x2) (k0_pay60 x0 x1 x2) k0_pay22 (ix2 a 0) = ⊥ := by
  have hm := mean_im_inf x1 x2 h
  pointwise [k0_pay26, inv_2047]
  rw [bits_2048, bits_eps]
  exact var_bot hm _

section
variable {U V : Fin 2048 → EReal} (hx : ∀ r l, x0 (ix3 a r l) = row U V r l)
include hx

/-- The sum of the imaginary parts is infinite when any part is. -/
theorem sum_im_inf (h : (∃ d, Inf (U d)) ∨ (∀ d, U d = (((U d).toReal : ℝ) : EReal)) ∧ ∃ d, Inf (V d)) :
    Inf (k0_pay58 x0 x1 x2 (ix2 a 0)) := by
  rw [sum_im x1 x2 hx]
  rcases h with ⟨d, hd⟩ | ⟨hu, d, hd⟩
  · exact Or.inr ((inf_sum hd).add_sub_self _)
  · have hs : ∑ d, U d = ((∑ d, (U d).toReal : ℝ) : EReal) := (Finset.sum_congr rfl fun d _ => hu d).trans (coe_sum _ _)
    rw [hs, (inf_sum hd).real_add_sub]
    exact inf_sum hd

/-- The root of the determinant is minus infinity. -/
theorem root_bot (h : (∃ d, Inf (U d)) ∨ (∀ d, U d = (((U d).toReal : ℝ) : EReal)) ∧ ∃ d, Inf (V d)) :
    k0_pay28 (k0_pay58 x0 x1 x2) (k0_pay59 x0 x1 x2) (k0_pay60 x0 x1 x2) (k0_pay61 x0 x1 x2) k0_pay22
      (k0_pay62 x0 x1 x2) (ix2 a 0) = ⊥ := by
  have hi := sum_im_inf x1 x2 hx h
  rw [root_operand, var_im_bot x1 x2 hi]
  rcases h with ⟨d, hd⟩ | ⟨hu, d, hd⟩
  · have hm : Inf (k0_pay62 x0 x1 x2 (ix2 a 0)) := by
      rw [mean_re x1 x2 hx, (inf_sum hd).div_pos (by norm_num)]
      exact inf_sum hd
    have ha : k0_pay25 (k0_pay59 x0 x1 x2) k0_pay22 (k0_pay62 x0 x1 x2) (ix2 a 0) = ⊥ := by
      pointwise [k0_pay25, inv_2047]
      rw [bits_2048, bits_eps]
      exact var_bot hm _
    have hb : Inf (k0_pay27 (k0_pay58 x0 x1 x2) (k0_pay61 x0 x1 x2) k0_pay22 (k0_pay62 x0 x1 x2) (ix2 a 0)) := by
      have hn := mean_im_inf x1 x2 hi
      pointwise [k0_pay27, inv_2047]
      rw [bits_2048, hm.pos_mul (by norm_num), ((hm.mul hn).sub_right _).mul_pos (by norm_num)]
      exact (hm.mul hn).sub_right _
    rw [ha, hb.mul_self, EReal.bot_mul_bot, EReal.sub_top]
    rfl
  · have ha : k0_pay25 (k0_pay59 x0 x1 x2) k0_pay22 (k0_pay62 x0 x1 x2) (ix2 a 0) =
        ((var (fun d => (U d).toReal) : ℝ) : EReal) := by
      pointwise [k0_pay25, inv_2047]
      rw [sum_rr x1 x2 hx, mean_re x1 x2 hx]
      have h1 : ∑ d, U d = ((∑ d, (U d).toReal : ℝ) : EReal) :=
        (Finset.sum_congr rfl fun d _ => hu d).trans (coe_sum _ _)
      have h2 : ∑ d, U d * U d = ((∑ d, (U d).toReal * (U d).toReal : ℝ) : EReal) :=
        (Finset.sum_congr rfl fun d _ => by rw [EReal.coe_mul, ← hu d]).trans (coe_sum _ _)
      rw [h1, h2, bits_2048, bits_eps, div_real (by norm_num)]
      simp only [← EReal.coe_mul, ← EReal.coe_sub, ← EReal.coe_add]
      rfl
    rw [ha, EReal.coe_mul_bot_of_pos (var_pos _ 0).1, EReal.bot_sub]
    rfl

/-- The factor shared by the entries is zero. -/
theorem shared_zero (h : (∃ d, Inf (U d)) ∨ (∀ d, U d = (((U d).toReal : ℝ) : EReal)) ∧ ∃ d, Inf (V d)) :
    k0_pay29 (k0_pay58 x0 x1 x2) (k0_pay59 x0 x1 x2) (k0_pay60 x0 x1 x2) (k0_pay61 x0 x1 x2) k0_pay22
      (k0_pay62 x0 x1 x2) (ix2 a 0) = 0 := by
  have hr := root_bot x1 x2 hx h
  pointwise [k0_pay29]
  rw [hr]
  exact Inf.div_right (Or.inr rfl) _

end

/-! ## The output -/

/-- Some entry of the token at place `a` of the block is infinite. -/
def HasInf (x0 : Vec Ideal S256x32x128 .f32) (a : Fin 256) : Prop := ∃ r l, Inf (x0 (ix3 a r l))

section
variable (h : HasInf x0 a)
include h

/-- The factor shared by the entries of a token with an infinite entry. -/
theorem shared_inf : k0_pay29 (k0_pay58 x0 x1 x2) (k0_pay59 x0 x1 x2) (k0_pay60 x0 x1 x2) (k0_pay61 x0 x1 x2) k0_pay22
      (k0_pay62 x0 x1 x2) (ix2 a 0) = 0 := by
  let U : Fin 2048 → EReal := fun d => x0 (ix3 a ⟨2 * (d.val / 128), by omega⟩ ⟨d.val % 128, by omega⟩)
  let V : Fin 2048 → EReal := fun d => x0 (ix3 a ⟨2 * (d.val / 128) + 1, by omega⟩ ⟨d.val % 128, by omega⟩)
  have hx : ∀ r l, x0 (ix3 a r l) = row U V r l := by
    intro r l
    unfold row
    split_ifs with hp
    · exact congrArg₂ (fun r' l' => x0 (ix3 a r' l')) (Fin.ext (by dsimp only; omega)) (Fin.ext (by dsimp only; omega))
    · exact congrArg₂ (fun r' l' => x0 (ix3 a r' l')) (Fin.ext (by dsimp only; omega)) (Fin.ext (by dsimp only; omega))
  refine shared_zero x1 x2 hx ?_
  by_cases hu : ∃ d, Inf (U d)
  · exact Or.inl hu
  · refine Or.inr ⟨fun d => (inf_or_real (U d)).resolve_left fun hd => hu ⟨d, hd⟩, ?_⟩
    obtain ⟨r, l, hi⟩ := h
    rw [hx] at hi
    unfold row at hi
    split_ifs at hi
    · exact absurd ⟨_, hi⟩ hu
    · exact ⟨_, hi⟩

theorem entry_00_inf : k0_pay63 x0 x1 x2 (ix2 a 0) = 0 := by
  pointwise [k0_pay63, k0_pay30, shared_inf x1 x2 h]
  exact mul_zero _

theorem entry_11_inf : k0_pay64 x0 x1 x2 (ix2 a 0) = 0 := by
  pointwise [k0_pay64, k0_pay31, shared_inf x1 x2 h]
  exact mul_zero _

theorem entry_01_inf : k0_pay65 x0 x1 x2 (ix2 a 0) = 0 := by
  pointwise [k0_pay65, k0_pay32, shared_inf x1 x2 h]
  exact mul_zero _

theorem entry_00_inf' : k0_pay30 (k0_pay58 x0 x1 x2) (k0_pay59 x0 x1 x2) (k0_pay60 x0 x1 x2) (k0_pay61 x0 x1 x2) k0_pay22
    (k0_pay62 x0 x1 x2) (ix2 a 0) = 0 := entry_00_inf x1 x2 h

theorem entry_01_inf' : k0_pay32 (k0_pay58 x0 x1 x2) (k0_pay59 x0 x1 x2) (k0_pay60 x0 x1 x2) (k0_pay61 x0 x1 x2) k0_pay22
    (k0_pay62 x0 x1 x2) (ix2 a 0) = 0 := entry_01_inf x1 x2 h

/-- The factor of an element itself is zero. -/
theorem own_inf (r : Fin 8) : k0_pay68 x0 x1 x2 (ix3 a r 0) = 0 := by
  pointwise [k0_pay68, k0_pay39, k0_pay35, k0_pay38, k0_pay66, k0_pay67, k0_pay33, k0_pay34, r0_1, r0_2, r0_3, even_bit,
    select_even, entry_00_inf' x1 x2 h, entry_01_inf' x1 x2 h, entry_01_inf x1 x2 h, entry_11_inf x1 x2 h]
  simp only [mul_zero, add_zero, ite_self]

/-- The factor of the other part is zero. -/
theorem other_inf (r : Fin 8) : k0_pay69 x0 x1 x2 (ix3 a r 0) = 0 := by
  pointwise [k0_pay69, k0_pay40, k0_pay36, k0_pay37, r0_1, r0_2, r0_3, even_bit, select_even, entry_00_inf x1 x2 h,
    entry_01_inf x1 x2 h, entry_11_inf x1 x2 h]
  simp only [mul_zero, add_zero, ite_self]

/-- The constant part is zero. -/
theorem offset_inf (r : Fin 8) : k0_pay70 x0 x1 x2 (ix3 a r 0) = 0 := by
  pointwise [k0_pay70, k0_pay41, k0_pay35, k0_pay36, k0_pay37, k0_pay38, k0_pay66, k0_pay67, k0_pay33, k0_pay34, r0_1, r0_2,
    r0_3, even_bit, select_even, entry_00_inf x1 x2 h, entry_01_inf x1 x2 h, entry_11_inf x1 x2 h,
    entry_00_inf' x1 x2 h, entry_01_inf' x1 x2 h]
  simp only [mul_zero, zero_mul, add_zero, sub_zero, ite_self]

end

end Cert.KernelIdeal.Block

end
-- ==== Proof.BlockSlabs.lean ====
/-
  ONE BLOCK OF THE KERNEL, its four slabs of eight rows: an output element from the three factors of its token, and what
  it comes to for a token of real numbers and for a token with an infinite entry.
-/
module

public import proofs.«01_k».proof.Proof.BlockInfinite

@[expose] public section

noncomputable section

namespace Cert.KernelIdeal.Block

open Idealize.ShloMosaic Cert.KernelIdeal Cert.KernelIdeal.Gen IdealReal Token

variable (x0 : Vec Ideal S256x32x128 .f32) (x1 : Vec Ideal S256x3 .f32) (x2 : Vec Ideal S1x32x128 .f32)

/-- The factors of the token at place `a`, by the row within a slab: of an element itself, of the other part of the same
    entry, and the constant part. -/
structure Factors (a : Fin 256) (own other off : Fin 8 → EReal) : Prop where
  own_eq : ∀ r, k0_pay68 x0 x1 x2 (ix3 a r 0) = own r
  other_eq : ∀ r, k0_pay69 x0 x1 x2 (ix3 a r 0) = other r
  off_eq : ∀ r, k0_pay70 x0 x1 x2 (ix3 a r 0) = off r

/-- The output's element in row `k + r`, `r` its row within a slab: the factors times the element and its neighbour, the
    constant part and the shift added. -/
def element (a : Fin 256) (own other off : Fin 8 → EReal) (k : ℕ) (r : Fin 8) (l : Fin 128) (hk : k + 7 < 32) : EReal :=
  own r * x0 (ix3 a ⟨k + r.val, by omega⟩ l) +
    other r * (if r.val % 2 = 0 then x0 (ix3 a ⟨k + (r.val + 8 - 7) % 8, by omega⟩ l)
      else x0 (ix3 a ⟨k + (r.val + 8 - 1) % 8, by omega⟩ l)) +
    (off r + x2 (ix3 0 ⟨k + r.val, by omega⟩ l))

section
variable {x0 x1 x2} {a : Fin 256} {own other off : Fin 8 → EReal} (h : Factors x0 x1 x2 a own other off)
include h

/-- An element's own factor where the body multiplies it by its first slab before it binds it. -/
theorem own_eq' (r : Fin 8) : k0_pay39 (k0_pay52 x0 x1 x2) (k0_pay64 x0 x1 x2) (k0_pay65 x0 x1 x2) (View.ld x1 r0_2)
    (View.ld x1 r0_3) (k0_pay66 x0 x1 x2) (k0_pay67 x0 x1 x2) (ix3 a r 0) = own r := h.own_eq r

/-- The first slab of eight rows. -/
theorem slab_0 (r : Fin 8) (l : Fin 128) :
    k0_pay45 (k0_pay52 x0 x1 x2) (k0_pay69 x0 x1 x2) (k0_pay70 x0 x1 x2) (k0_pay42 (View.ld x2 r0_4))
      (k0_pay43 (k0_pay51 x0 x1 x2)) (k0_pay44 (k0_pay51 x0 x1 x2) (k0_pay52 x0 x1 x2) (k0_pay64 x0 x1 x2)
      (k0_pay65 x0 x1 x2) (View.ld x1 r0_2) (View.ld x1 r0_3) (k0_pay66 x0 x1 x2) (k0_pay67 x0 x1 x2)) 7#32 (ix3 a r l) =
    element x0 x2 a own other off 0 r l (by norm_num) := by
  pointwise [k0_pay45, k0_pay44, k0_pay43, k0_pay42, even_bit, pay51_eq, r0_4, select_even, own_eq' h, h.other_eq, h.off_eq]
  simp only [element, Nat.zero_add]

/-- The second slab. -/
theorem slab_1 (r : Fin 8) (l : Fin 128) :
    k0_pay46 (k0_pay51 x0 x1 x2) (k0_pay52 x0 x1 x2) (k0_pay68 x0 x1 x2) (k0_pay69 x0 x1 x2) (k0_pay70 x0 x1 x2)
      (View.ld x2 r0_6) (ix3 a r l) = element x0 x2 a own other off 8 r l (by norm_num) := by
  pointwise [k0_pay46, even_bit, pay51_eq, r0_6, select_even, h.own_eq, h.other_eq, h.off_eq]
  rfl

/-- The third slab. -/
theorem slab_2 (r : Fin 8) (l : Fin 128) :
    k0_pay1 (k0_pay69 x0 x1 x2) (k0_pay70 x0 x1 x2) (k0_pay47 (View.ld x2 r0_8))
      (k0_pay49 (k0_pay51 x0 x1 x2) (k0_pay68 x0 x1 x2)) (k0_pay50 (k0_pay51 x0 x1 x2) (k0_pay52 x0 x1 x2)) (ix3 a r l) =
    element x0 x2 a own other off 16 r l (by norm_num) := by
  pointwise [k0_pay1, k0_pay47, k0_pay48, k0_pay49, k0_pay50, even_bit, pay51_eq, r0_8, select_even, h.own_eq, h.other_eq,
    h.off_eq]
  rfl

/-- The fourth slab. -/
theorem slab_3 (r : Fin 8) (l : Fin 128) :
    k0_pay2 (k0_pay51 x0 x1 x2) (k0_pay52 x0 x1 x2) (k0_pay68 x0 x1 x2) (k0_pay69 x0 x1 x2) (k0_pay70 x0 x1 x2)
      (View.ld x2 r0_10) (ix3 a r l) = element x0 x2 a own other off 24 r l (by norm_num) := by
  pointwise [k0_pay2, even_bit, pay51_eq, r0_10, select_even, h.own_eq, h.other_eq, h.off_eq]
  rfl

end

/-! ## What an element comes to -/

/-- The token at place `a` comes out as `T` by row and lane, the shift apart. -/
def TokenOut (a : Fin 256) (T : Fin 32 → Fin 128 → EReal) : Prop :=
  ∃ own other off, Factors x0 x1 x2 a own other off ∧ ∀ (k : ℕ) (r : Fin 8) (l : Fin 128) (hk : k + 7 < 32), k % 8 = 0 →
    element x0 x2 a own other off k r l hk = T ⟨k + r.val, by omega⟩ l + x2 (ix3 0 ⟨k + r.val, by omega⟩ l)

variable {x0 x1} {a : Fin 256}

/-- A token of real numbers, with a real gain, comes out whitened and scaled. -/
theorem token_real {u v : Fin 2048 → ℝ} {g : Fin 3 → ℝ} (hx : ∀ r l, x0 (ix3 a r l) = ((row u v r l : ℝ) : EReal))
    (hg : ∀ j, x1 (ix2 a j) = ((g j : ℝ) : EReal)) :
    TokenOut x0 x1 x2 a fun r l => ((row (outRe u v g) (outIm u v g) r l : ℝ) : EReal) := by
  refine ⟨_, _, _, ⟨own_factor x2 hx hg, other_factor x2 hx hg, offset x2 hx hg⟩, fun k r l hk hk8 => ?_⟩
  unfold element
  simp only [hx]
  rw [← apply_ite (fun z : ℝ => (z : EReal)), row_swap u v k r hk hk8 l, ← add_assoc]
  simp only [← EReal.coe_mul, ← EReal.coe_add]
  congr 2
  have hp : (k + r.val) % 2 = r.val % 2 := by omega
  unfold row
  simp only [hp]
  split_ifs <;> rfl

/-- A token with an infinite entry comes out as zero. -/
theorem token_inf (h : HasInf x0 a) : TokenOut x0 x1 x2 a fun _ _ => 0 := by
  refine ⟨_, _, _, ⟨own_inf x1 x2 h, other_inf x1 x2 h, offset_inf x1 x2 h⟩, fun k r l hk hk8 => ?_⟩
  simp only [element, zero_mul, zero_add]

end Cert.KernelIdeal.Block

end
-- ==== Proof.BlockOut.lean ====
/-
  ONE BLOCK OF THE KERNEL, whole: the four slabs of eight rows put together. What the body leaves in the output's
  buffer, at every token, row and lane, is what the token comes out as, plus the shift.
-/
module

public import proofs.«01_k».proof.Proof.BlockSlabs
public import Idealize.ShloMosaic.Lib.Pipeline.ValueKit.Geometry

@[expose] public section

noncomputable section

namespace Cert.KernelIdeal.Block

open Idealize.ShloMosaic Cert.KernelIdeal Cert.KernelIdeal.Gen Token

/-- The output's element at (token, row, lane): the token's own, and the shift. -/
def outAt (x2 : Vec Ideal S1x32x128 .f32) (T : Fin 256 → Fin 32 → Fin 128 → EReal)
    (a : Fin 256) (r : Fin 32) (l : Fin 128) : EReal :=
  T a r l + x2 (ix3 0 r l)

/-- The block the body leaves is `outAt` at every index, when its tokens come out as `T`. -/
theorem block_out {x0 : Vec Ideal S256x32x128 .f32} {x1 : Vec Ideal S256x3 .f32} (x2 : Vec Ideal S1x32x128 .f32)
    {T : Fin 256 → Fin 32 → Fin 128 → EReal} (hT : ∀ a, TokenOut x0 x1 x2 a (T a)) (y : S256x32x128.Idx) :
    out0_3 x0 x1 x2 y = outAt x2 T (y 0) (y 1) (y 2) := by
  unfold out0_3
  refine View.canon_apply_of_pieces (Val := Elt Ideal) (e := EltTy.f32)
    (fun z : S256x32x128.Idx => outAt x2 T (z 0) (z 1) (z 2)) _ (fun p hp j => ?_) y (cover0_3 _ _ _ _ y)
  simp only [List.mem_cons, List.mem_nil_iff, or_false] at hp
  have at_emb : ∀ (e : S256x32x128.Idx) (a : Fin 256) (r : Fin 32) (l : Fin 128), (e 0).val = a.val →
      (e 1).val = r.val → (e 2).val = l.val → outAt x2 T a r l = outAt x2 T (e 0) (e 1) (e 2) := by
    intro e a r l h0 h1 h2
    rw [show a = e 0 from Fin.ext h0.symm, show r = e 1 from Fin.ext h1.symm, show l = e 2 from Fin.ext h2.symm]
  rcases hp with rfl | rfl | rfl | rfl <;> dsimp only at j ⊢ <;> rw [eq_ix3 j] <;> obtain ⟨own, other, off, hf, hel⟩ := hT (j 0)
  · exact ((slab_3 hf (j 1) (j 2)).trans (hel 24 (j 1) (j 2) _ (by norm_num))).trans (at_emb _ _ _ _
      ((ValueKit.rect_emb_unit_val _ _ _ _ _).trans (Nat.zero_add _)) (ValueKit.rect_emb_unit_val _ _ _ _ _)
      ((ValueKit.rect_emb_unit_val _ _ _ _ _).trans (Nat.zero_add _)))
  · exact ((slab_2 hf (j 1) (j 2)).trans (hel 16 (j 1) (j 2) _ (by norm_num))).trans (at_emb _ _ _ _
      ((ValueKit.rect_emb_unit_val _ _ _ _ _).trans (Nat.zero_add _)) (ValueKit.rect_emb_unit_val _ _ _ _ _)
      ((ValueKit.rect_emb_unit_val _ _ _ _ _).trans (Nat.zero_add _)))
  · exact ((slab_1 hf (j 1) (j 2)).trans (hel 8 (j 1) (j 2) _ (by norm_num))).trans (at_emb _ _ _ _
      ((ValueKit.rect_emb_unit_val _ _ _ _ _).trans (Nat.zero_add _)) (ValueKit.rect_emb_unit_val _ _ _ _ _)
      ((ValueKit.rect_emb_unit_val _ _ _ _ _).trans (Nat.zero_add _)))
  · exact ((slab_0 hf (j 1) (j 2)).trans (hel 0 (j 1) (j 2) _ (by norm_num))).trans (at_emb _ _ _ _
      ((ValueKit.rect_emb_unit_val _ _ _ _ _).trans (Nat.zero_add _)) (ValueKit.rect_emb_unit_val _ _ _ _ _)
      ((ValueKit.rect_emb_unit_val _ _ _ _ _).trans (Nat.zero_add _)))

end Cert.KernelIdeal.Block

end
-- ==== Proof.Layer.lean ====
/-
  THE WHOLE RESULT over the reals, apart from the shift: tokens numbered over batch and sequence, each with its real
  and imaginary parts and the gain of its position, and the result's element at (batch, position, feature, part). A token
  with an infinite entry gives zero.
-/
module

public import proofs.«01_k».proof.Proof.Token
public import proofs.«01_k».proof.Proof.Infinite

@[expose] public section

noncomputable section

namespace Layer

open Token

variable (x : Fin 4 → Fin 4096 → Fin 2048 → Fin 2 → ℝ) (γ : Fin 2048 → Fin 3 → ℝ)

theorem batch_lt (k : Fin 16384) : k.val / 4096 < 4 := by omega

theorem place_lt (k : Fin 16384) : k.val % 4096 < 4096 := by omega

/-- Token `k`'s real part. -/
def re (k : Fin 16384) (d : Fin 2048) : ℝ := x ⟨k.val / 4096, by omega⟩ ⟨k.val % 4096, by omega⟩ d 0

/-- Token `k`'s imaginary part. -/
def im (k : Fin 16384) (d : Fin 2048) : ℝ := x ⟨k.val / 4096, by omega⟩ ⟨k.val % 4096, by omega⟩ d 1

/-- The gain of token `k`: the gains repeat after 2048 tokens. -/
def gain (k : Fin 16384) (j : Fin 3) : ℝ := γ ⟨k.val % 2048, by omega⟩ j

/-- Token `k`'s first output. -/
def first (k : Fin 16384) (d : Fin 2048) : ℝ := outRe (re x k) (im x k) (gain γ k) d

/-- Token `k`'s second output. -/
def second (k : Fin 16384) (d : Fin 2048) : ℝ := outIm (re x k) (im x k) (gain γ k) d

/-- The number of the token at position `s` of batch element `b`. -/
def tok (b : Fin 4) (s : Fin 4096) : Fin 16384 := ⟨4096 * b.val + s.val, by omega⟩

/-- The result without the shift at (batch, position, feature, part). -/
def out (b : Fin 4) (s : Fin 4096) (d : Fin 2048) (e : Fin 2) : ℝ :=
  if e.val = 0 then first x γ (tok b s) d else second x γ (tok b s) d

/-- The input in the kernel's arrangement: the row of a token's parts at (row, lane) is `x` at that token, feature
    `128 · (row / 2) + lane`, part `row % 2`. -/
theorem row_eq (k : Fin 16384) (r : Fin 32) (l : Fin 128) :
    row (re x k) (im x k) r l = x ⟨k.val / 4096, by omega⟩ ⟨k.val % 4096, by omega⟩
      ⟨128 * (r.val / 2) + l.val, by omega⟩ ⟨r.val % 2, by omega⟩ := by
  rcases Nat.mod_two_eq_zero_or_one r.val with h | h <;> simp [row, re, im, h] <;> rfl

/-- The two outputs of a token in the kernel's arrangement. -/
theorem row_out (k : Fin 16384) (r : Fin 32) (l : Fin 128) :
    row (first x γ k) (second x γ k) r l = out x γ ⟨k.val / 4096, by omega⟩ ⟨k.val % 4096, by omega⟩
      ⟨128 * (r.val / 2) + l.val, by omega⟩ ⟨r.val % 2, by omega⟩ := by
  have hk : tok ⟨k.val / 4096, by omega⟩ ⟨k.val % 4096, by omega⟩ = k := Fin.ext (by simp only [tok]; omega)
  unfold out row
  rw [hk]

/-! ## Tokens with infinite entries -/

open Classical in
/-- The result without the shift for an input of extended reals: `out` for a token of real numbers, and zero for a token
    with an infinite entry. -/
def whole (X : Fin 4 → Fin 4096 → Fin 2048 → Fin 2 → EReal) (b : Fin 4) (s : Fin 4096) (d : Fin 2048) (e : Fin 2) : EReal :=
  if ∃ d e, Infinite.Inf (X b s d e) then 0 else ((out (fun b s d e => (X b s d e).toReal) γ b s d e : ℝ) : EReal)

theorem whole_inf {X : Fin 4 → Fin 4096 → Fin 2048 → Fin 2 → EReal} {b : Fin 4} {s : Fin 4096}
    (h : ∃ d e, Infinite.Inf (X b s d e)) (d : Fin 2048) (e : Fin 2) : whole γ X b s d e = 0 := if_pos h

theorem whole_real {X : Fin 4 → Fin 4096 → Fin 2048 → Fin 2 → EReal} {b : Fin 4} {s : Fin 4096}
    (h : ¬ ∃ d e, Infinite.Inf (X b s d e)) (d : Fin 2048) (e : Fin 2) :
    whole γ X b s d e = ((out (fun b s d e => (X b s d e).toReal) γ b s d e : ℝ) : EReal) := if_neg h

/-- The entries of a token without infinite ones. -/
theorem real_of_not_inf {X : Fin 4 → Fin 4096 → Fin 2048 → Fin 2 → EReal} {b : Fin 4} {s : Fin 4096}
    (h : ¬ ∃ d e, Infinite.Inf (X b s d e)) (d : Fin 2048) (e : Fin 2) :
    X b s d e = (((X b s d e).toReal : ℝ) : EReal) :=
  (Infinite.inf_or_real _).resolve_left fun hi => h ⟨d, e, hi⟩

end Layer

end
-- ==== Proof.KernelArray.lean ====
/-
  THE KERNEL'S ARRAYS: what the host's reshapes stage for the pipeline, what each grid point's blocks hold, the output
  array after all 64 points, and what the host's reshapes make of it.
-/
module

public import proofs.«01_k».proof.Proof.BlockOut
public import proofs.«01_k».proof.Proof.Layer
public import Idealize.ShloMosaic.Lib.StableHlo.ReadAt

@[expose] public section

noncomputable section

namespace Cert.KernelIdeal.Arrays

open Idealize.ShloMosaic Idealize.SL.Sem Cert.KernelIdeal Cert.KernelIdeal.Gen Token Block

variable (m : (ℓ : Loc nD τ sig) → Buf (Elt Ideal) ℓ) (c : Dev nD)

/-- The staged input at (token, row, lane). -/
theorem staged_x (k : Fin 16384) (r : Fin 32) (l : Fin 128) :
    (V m c main_v2 : Vec Ideal S16384x32x128 .f32) (ix3 k r l) =
      (m (c.tc.loc main_arg0) : Vec Ideal S4x4096x2048x2 .f32)
        (ix4 ⟨k.val / 4096, by omega⟩ ⟨k.val % 4096, by omega⟩ ⟨128 * (r.val / 2) + l.val, by omega⟩ ⟨r.val % 2, by omega⟩) := by
  unfold V
  after_reads_at
  exact congrArg _ (by simp only [Nat.mul_comm])

/-- The staged shift at (row, lane). -/
theorem staged_beta (r : Fin 32) (l : Fin 128) :
    (V m c main_v5 : Vec Ideal S1x32x128 .f32) (ix3 0 r l) =
      (m (c.tc.loc main_arg2) : Vec Ideal S2048x2 .f32)
        (ix2 ⟨128 * (r.val / 2) + l.val, by omega⟩ ⟨r.val % 2, by omega⟩) := by
  unfold V
  after_reads_at
  exact congrArg _ (by simp only [Nat.mul_comm])

/-! ## The blocks of a grid point -/

/-- The block indices of the four windows at point `t`. -/
theorem index_0 : ∀ t : Fin cfg0.N, win0_0.index t 0 = t.val ∧ win0_0.index t 1 = 0 ∧ win0_0.index t 2 = 0 := by
  decide +kernel
theorem index_1 : ∀ t : Fin cfg0.N, win0_1.index t 0 = t.val % 8 ∧ win0_1.index t 1 = 0 := by
  decide +kernel
theorem index_2 : ∀ t : Fin cfg0.N, win0_2.index t 0 = 0 ∧ win0_2.index t 1 = 0 ∧ win0_2.index t 2 = 0 := by
  decide +kernel
theorem index_3 : ∀ t : Fin cfg0.N, win0_3.index t 0 = t.val ∧ win0_3.index t 1 = 0 ∧ win0_3.index t 2 = 0 := by
  decide +kernel

/-- The token at place `a` of block `t`. -/
def token (t : Fin cfg0.N) (a : Fin 256) : Fin 16384 :=
  ⟨256 * t.val + a.val, by have : cfg0.N = 64 := N_0; have := t.isLt; omega⟩

/-- The input's block at point `t` holds tokens `256 t … 256 t + 255` of the staged input. -/
theorem block_x (t : Fin cfg0.N) (a : Fin 256) (r : Fin 32) (l : Fin 128) :
    (iblk m c 0 t : Vec Ideal S256x32x128 .f32) (ix3 a r l) =
      (V m c main_v2 : Vec Ideal S16384x32x128 .f32) (ix3 (token t a) r l) := by
  have hi := index_0 t
  have he : (win0_0.rect t).emb (ix3 a r l) = ix3 (token t a) r l := by
    funext ax
    apply Fin.ext
    rw [Pipeline.Window.rect_emb_val win0_0]
    fin_cases ax
    · show win0_0.index t 0 * 256 + a.val = 256 * t.val + a.val
      rw [hi.1]; omega
    · show win0_0.index t 1 * 32 + r.val = r.val
      rw [hi.2.1]; omega
    · show win0_0.index t 2 * 128 + l.val = l.val
      rw [hi.2.2]; omega
  exact congrArg (V m c main_v2 : Vec Ideal S16384x32x128 .f32) he

/-- The gains' block at point `t` holds the 256 rows of gains starting at `256 (t mod 8)`. -/
theorem block_gain (t : Fin cfg0.N) (a : Fin 256) (j : Fin 3) :
    (iblk m c 1 t : Vec Ideal S256x3 .f32) (ix2 a j) =
      (m (c.tc.loc main_arg1) : Vec Ideal S2048x3 .f32) (ix2 ⟨(token t a).val % 2048, by omega⟩ j) := by
  have hi := index_1 t
  have he : (win0_1.rect t).emb (ix2 a j) = ix2 ⟨(token t a).val % 2048, by omega⟩ j := by
    funext ax
    apply Fin.ext
    rw [Pipeline.Window.rect_emb_val win0_1]
    fin_cases ax
    · show win0_1.index t 0 * 256 + a.val = (256 * t.val + a.val) % 2048
      rw [hi.1]; omega
    · show win0_1.index t 1 * 3 + j.val = j.val
      rw [hi.2]; omega
  exact (congrArg (V m c main_arg1 : Vec Ideal S2048x3 .f32) he).trans (congrFun (V_main_arg1 m c) _)

/-- The shift's block is the staged shift at every point. -/
theorem block_beta (t : Fin cfg0.N) (r : Fin 32) (l : Fin 128) :
    (iblk m c 2 t : Vec Ideal S1x32x128 .f32) (ix3 0 r l) =
      (V m c main_v5 : Vec Ideal S1x32x128 .f32) (ix3 0 r l) := by
  have hi := index_2 t
  have he : (win0_2.rect t).emb (ix3 0 r l) = ix3 0 r l := by
    funext ax
    apply Fin.ext
    rw [Pipeline.Window.rect_emb_val win0_2]
    fin_cases ax
    · show win0_2.index t 0 * 1 + 0 = 0
      rw [hi.1]
    · show win0_2.index t 1 * 32 + r.val = r.val
      rw [hi.2.1]; omega
    · show win0_2.index t 2 * 128 + l.val = l.val
      rw [hi.2.2]; omega
  exact congrArg (V m c main_v5 : Vec Ideal S1x32x128 .f32) he

/-! ## The output array -/

variable (γ : Fin 2048 → Fin 3 → ℝ)

/-- The input by (batch, position, feature, part). -/
def input (b : Fin 4) (s : Fin 4096) (d : Fin 2048) (e : Fin 2) : EReal :=
  (m (c.tc.loc main_arg0) : Vec Ideal S4x4096x2048x2 .f32) (ix4 b s d e)

/-- What token `k` comes out as at (row, lane). -/
def outRow (k : Fin 16384) (r : Fin 32) (l : Fin 128) : EReal :=
  Layer.whole γ (input m c) ⟨k.val / 4096, by omega⟩ ⟨k.val % 4096, by omega⟩ ⟨128 * (r.val / 2) + l.val, by omega⟩
    ⟨r.val % 2, by omega⟩

/-- The output array at (token, row, lane): what the token comes out as, plus the shift. -/
def array : Vec Ideal S16384x32x128 .f32 := fun i =>
  outRow m c γ (i 0) (i 1) (i 2) + (V m c main_v5 : Vec Ideal S1x32x128 .f32) (ix3 0 (i 1) (i 2))

variable (hg : ∀ s j, (m (c.tc.loc main_arg1) : Vec Ideal S2048x3 .f32) (ix2 s j) = ((γ s j : ℝ) : EReal))
include hg

/-- Every token of the block of point `t` comes out as `outRow`. -/
theorem token_out (t : Fin cfg0.N) (a : Fin 256) :
    TokenOut (iblk m c 0 t) (iblk m c 1 t) (iblk m c 2 t) a (outRow m c γ (token t a)) := by
  have hX : ∀ r l, (iblk m c 0 t : Vec Ideal S256x32x128 .f32) (ix3 a r l) = input m c ⟨(token t a).val / 4096, by omega⟩
      ⟨(token t a).val % 4096, by omega⟩ ⟨128 * (r.val / 2) + l.val, by omega⟩ ⟨r.val % 2, by omega⟩ := fun r l =>
    (block_x m c t a r l).trans (staged_x m c _ r l)
  by_cases h : ∃ d e, Infinite.Inf (input m c ⟨(token t a).val / 4096, by omega⟩ ⟨(token t a).val % 4096, by omega⟩ d e)
  · have ho : outRow m c γ (token t a) = fun _ _ => 0 := funext fun r => funext fun l => Layer.whole_inf γ h _ _
    rw [ho]
    obtain ⟨d, e, hi⟩ := h
    refine token_inf _ ⟨⟨2 * (d.val / 128) + e.val, by omega⟩, ⟨d.val % 128, by omega⟩, ?_⟩
    rw [hX]
    have hd : (⟨128 * ((2 * (d.val / 128) + e.val) / 2) + d.val % 128, by omega⟩ : Fin 2048) = d :=
      Fin.ext (by dsimp only; omega)
    have he : (⟨(2 * (d.val / 128) + e.val) % 2, by omega⟩ : Fin 2) = e := Fin.ext (by dsimp only; omega)
    dsimp only
    rw [hd, he]
    exact hi
  · have ho : outRow m c γ (token t a) = fun r l =>
        ((row (Layer.first (fun b s d e => (input m c b s d e).toReal) γ (token t a))
          (Layer.second (fun b s d e => (input m c b s d e).toReal) γ (token t a)) r l : ℝ) : EReal) :=
      funext fun r => funext fun l => (Layer.whole_real γ h _ _).trans (congrArg _ (Layer.row_out _ _ _ r l).symm)
    rw [ho]
    refine token_real _ (fun r l => ?_) (fun j => ?_)
    · rw [hX, Layer.row_eq]
      exact Layer.real_of_not_inf h _ _
    · rw [block_gain, hg]
      rfl

/-- What point `t` writes back is the block of `array` at `t`. -/
theorem flushed_eq (t : Fin cfg0.N) (_ : (cfg0.win 3).flush t = true) :
    (dats m 0 c).flushed 3 t = ((cfg0.win 3).blk t).view.read (Elt Ideal) (array m c γ) := by
  show (cfg0.win 3).cut (grid0.coords t) ((dats m 0 c).after 3 t) = _
  rw [after0_3]
  funext y
  have hi := index_3 t
  have he : (win0_3.rect t).emb y = ix3 (token t (y 0)) (y 1) (y 2) := by
    funext ax
    apply Fin.ext
    rw [Pipeline.Window.rect_emb_val win0_3]
    fin_cases ax
    · show win0_3.index t 0 * 256 + (y 0).val = 256 * t.val + (y 0).val
      rw [hi.1]; omega
    · show win0_3.index t 1 * 32 + (y 1).val = (y 1).val
      rw [hi.2.1]; omega
    · show win0_3.index t 2 * 128 + (y 2).val = (y 2).val
      rw [hi.2.2]; omega
  have hb := block_out (x0 := iblk m c 0 t) (x1 := iblk m c 1 t) (iblk m c 2 t) (token_out m c γ hg t) y
  refine hb.trans ?_
  show _ = array m c γ ((win0_3.rect t).emb y)
  rw [he]
  exact congrArg (_ + ·) (block_beta m c t (y 1) (y 2))

/-- The output array after the last point: every element is in the block of its token's point. -/
theorem final : (dats m 0 c).arrAt 3 cfg0.N = array m c γ :=
  (dats m 0 c).arrAt_eq_of_cover 3 (array m c γ) (flushed_eq m c γ hg) fun i => by
    have hN : cfg0.N = 64 := N_0
    have h0 : (i 0).val < 16384 := (i 0).isLt
    have h1 : (i 1).val < 32 := (i 1).isLt
    have h2 : (i 2).val < 128 := (i 2).isLt
    obtain ⟨t, ht⟩ : ∃ t : Fin cfg0.N, t.val = (i 0).val / 256 := ⟨⟨(i 0).val / 256, by omega⟩, rfl⟩
    refine ⟨t, flush0_3 t, ?_⟩
    have hi := index_3 t
    show i ∈ ((View.whole main_v6).slice (win0_3.rect t)).set
    rw [View.set_slice_whole, Rect.mem_set_unit]
    intro a
    fin_cases a
    · show win0_3.index t 0 * 256 ≤ (i 0).val ∧ (i 0).val < win0_3.index t 0 * 256 + 256
      rw [hi.1, ht]; omega
    · show win0_3.index t 1 * 32 ≤ (i 1).val ∧ (i 1).val < win0_3.index t 1 * 32 + 32
      rw [hi.2.1]; omega
    · show win0_3.index t 2 * 128 ≤ (i 2).val ∧ (i 2).val < win0_3.index t 2 * 128 + 128
      rw [hi.2.2]; omega

/-! ## The result -/

/-- The result at (batch, position, feature, part): the layer's element plus the shift's. -/
theorem result_apply (b : Fin 4) (s : Fin 4096) (d : Fin 2048) (e : Fin 2) :
    (Pipeline.afterTail₀ cfgs (dats m) 0 (V0 m) [hostOps1] c main_v9 : Vec Ideal S4x4096x2048x2 .f32) (ix4 b s d e) =
      Layer.whole γ (input m c) b s d e + (m (c.tc.loc main_arg2) : Vec Ideal S2048x2 .f32) (ix2 d e) := by
  have h6 := (Pipeline.withArrays_arr spec0 (by decide) c (V0 m c) (fun w => (dats m 0 c).arrAt w cfg0.N) 3).trans
    (final m c γ hg)
  unfold Pipeline.afterTail₀
  simp only [List.flatten_cons, List.flatten_nil, List.append_nil]
  unfold hostOps1
  after_reads_at
  refine (congrFun h6 (ix3 ⟨b.val * 4096 + s.val, by omega⟩ ⟨d.val / 128 * 2 + e.val, by omega⟩
    ⟨d.val % 128, by omega⟩)).trans ?_
  refine congrArg₂ (· + ·) ?_ ((staged_beta m c _ _).trans (congrArg _ ?_))
  · have h0 : (⟨(b.val * 4096 + s.val) / 4096, by omega⟩ : Fin 4) = b := Fin.ext (by dsimp only; omega)
    have h1 : (⟨(b.val * 4096 + s.val) % 4096, by omega⟩ : Fin 4096) = s := Fin.ext (by dsimp only; omega)
    have h2 : (⟨128 * ((d.val / 128 * 2 + e.val) / 2) + d.val % 128, by omega⟩ : Fin 2048) = d :=
      Fin.ext (by dsimp only; omega)
    have h3 : (⟨(d.val / 128 * 2 + e.val) % 2, by omega⟩ : Fin 2) = e := Fin.ext (by dsimp only; omega)
    show Layer.whole γ (input m c) ⟨(b.val * 4096 + s.val) / 4096, _⟩ ⟨(b.val * 4096 + s.val) % 4096, _⟩
      ⟨128 * ((d.val / 128 * 2 + e.val) / 2) + d.val % 128, _⟩ ⟨(d.val / 128 * 2 + e.val) % 2, _⟩ = _
    rw [h0, h1, h2, h3]
  refine congrArg₂ ix2 (Fin.ext ?_) (Fin.ext ?_)
  · show 128 * ((d.val / 128 * 2 + e.val) / 2) + d.val % 128 = d.val
    omega
  · show (d.val / 128 * 2 + e.val) % 2 = e.val
    omega

/-- The result at any index. -/
theorem result_eq : (Pipeline.afterTail₀ cfgs (dats m) 0 (V0 m) [hostOps1] c main_v9 : Vec Ideal S4x4096x2048x2 .f32) =
    fun i => Layer.whole γ (input m c) (i 0) (i 1) (i 2) (i 3) +
      (m (c.tc.loc main_arg2) : Vec Ideal S2048x2 .f32) (ix2 (i 2) (i 3)) :=
  funext fun i => (congrArg _ (eq_ix4 i)).trans (result_apply m c γ hg (i 0) (i 1) (i 2) (i 3))

omit hg in
/-- The run: where the gains are real, the result ends at the layer's elements plus the shift, and the
    arguments end unchanged. -/
theorem run (ρ : Dev nD → PrngReg) (γ : Dev nD → Fin 2048 → Fin 3 → ℝ)
    (hg : ∀ c s j, (m (c.tc.loc main_arg1) : Vec Ideal S2048x3 .f32) (ix2 s j) = ((γ c s j : ℝ) : EReal)) :
    θ_run defs (onTc (τ := τ) (main (F := Ideal))) ⟨m, fun _ => 0, ρ⟩ (fun r => ∀ c : Dev nD,
      r.2.mem ((c.tc : Thread nD τ).loc main_v9) = (fun i => Layer.whole (γ c) (input m c) (i 0) (i 1) (i 2) (i 3) +
        (m (c.tc.loc main_arg2) : Vec Ideal S2048x2 .f32) (ix2 (i 2) (i 3)) : Vec Ideal S4x4096x2048x2 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans
        (result_eq m c (γ c) (hg c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Arrays
-- ==== Proof.RefMatrix.lean ====
/-
  THE REFERENCE'S MATRIX: from the input to each token's whitening matrix. The centred parts, their covariance with
  `eps` on its diagonal, its eigenvalues and an eigenvector, the matrix of eigenvectors and its inverse, and the product
  `V · diag(1/√w) · V⁻¹`, each read at an index of a token of real numbers
  and shown equal to a real number.
-/
module

public import proofs.«01_k».proof.Proof.Layer
public import proofs.«01_k».proof.Proof.IdealReal
public import proofs.«01_k».proof.Proof.Gen.ReferenceIdeal.Read
public import Idealize.ShloMosaic.Lib.Pointwise

@[expose] public section

noncomputable section

namespace Cert.ReferenceIdeal.Layers

open Idealize.ShloMosaic Cert.ReferenceIdeal Cert.ReferenceIdeal.Read IdealReal Token Layer Whiten

variable {x0 : Vec Ideal S4x4096x2048x2 .f32} {x : Fin 4 → Fin 4096 → Fin 2048 → Fin 2 → ℝ}
variable {k : Fin 16384} (hx : ∀ d e, x0 (ix4 ⟨k.val / 4096, Layer.batch_lt k⟩ ⟨k.val % 4096, Layer.place_lt k⟩ d e) =
  ((x ⟨k.val / 4096, Layer.batch_lt k⟩ ⟨k.val % 4096, Layer.place_lt k⟩ d e : ℝ) : EReal))

section
include hx

/-- A centred element of the input: the element less the mean of its token's part. -/
theorem centred_at (d : Fin 2048) (e : Fin 2) : val_main_v6 x0 (ix3 k d e) =
    ((x ⟨k.val / 4096, Layer.batch_lt k⟩ ⟨k.val % 4096, Layer.place_lt k⟩ d e -
      mean (fun d' => x ⟨k.val / 4096, Layer.batch_lt k⟩ ⟨k.val % 4096, Layer.place_lt k⟩ d' e) : ℝ) : EReal) := by
  pointwise [val_main_v6, val_main_v5, val_main_v4, val_main_v3, val_main_v2, val_main_v1, val_main_v0, val_main_cst,
    val_main_cst_0]
  simp only [hx]
  rw [coe_sum, bits_2048, div_real (by norm_num), ← EReal.coe_sub]
  rfl

/-- The centred real part. -/
theorem centred_re (d : Fin 2048) :
    val_main_v6 x0 (ix3 k d 0) = ((re x k d - mean (re x k) : ℝ) : EReal) := centred_at hx d 0

/-- The centred imaginary part. -/
theorem centred_im (d : Fin 2048) :
    val_main_v6 x0 (ix3 k d 1) = ((im x k d - mean (im x k) : ℝ) : EReal) := centred_at hx d 1

omit hx in
/-- The identity matrix's entries, as the reference makes them: the row's number compared with the column's. -/
theorem identity_at (i j : Fin 2) : FloatOps.uitofp (F := Ideal) FTy.f32
    (IntOp.cmpi CmpIPredicate.eq (IntOp.addi (BitVec.ofNat 32 i.val) 0#32) (BitVec.ofNat 32 j.val)) =
      ((if i = j then 1 else 0 : ℝ) : EReal) := by
  fin_cases i <;> fin_cases j <;>
    first
    | (change (((1#1).toNat : ℝ) : EReal) = _; norm_num)
    | (change (((0#1).toNat : ℝ) : EReal) = _; norm_num)

omit hx in
/-- An entry of a token's matrix: the covariance of the two parts, and `eps` where they are the same. -/
theorem entry_at {i j : Fin 2} {u v : Fin 2048 → ℝ}
    (hu : ∀ d, val_main_v6 x0 (ix3 k d i) = ((u d - mean u : ℝ) : EReal))
    (hv : ∀ d, val_main_v6 x0 (ix3 k d j) = ((v d - mean v : ℝ) : EReal)) :
    val_main_v20 x0 (ix3 k i j) = ((cov u v + eps * if i = j then 1 else 0 : ℝ) : EReal) := by
  pointwise [val_main_v20, val_main_v9, val_main_v8, val_main_v7, val_main_cst_1, val_main_v19, val_main_v18,
    val_main_v17, val_main_v16, val_main_v15, val_main_v14, val_main_v13, val_main_v12, val_main_v11, val_main_v10,
    val_main_c, val_main_cst_2]
  rw [identity_at]
  simp only [hu, hv, ← EReal.coe_mul]
  rw [coe_sum, bits_2047, div_real (by norm_num), bits_eps, ← EReal.coe_mul, ← EReal.coe_add, cov_eq_centred]

/-- The variance of the real part, with `eps`. -/
theorem var_00 : val_main_v20 x0 (ix3 k 0 0) = ((var (re x k) : ℝ) : EReal) :=
  (entry_at (centred_re hx) (centred_re hx)).trans (by simp [var])

/-- The covariance of the two parts. -/
theorem cov_01 : val_main_v20 x0 (ix3 k 0 1) = ((cov (re x k) (im x k) : ℝ) : EReal) :=
  (entry_at (centred_re hx) (centred_im hx)).trans (by simp)

/-- The variance of the imaginary part, with `eps`. -/
theorem var_11 : val_main_v20 x0 (ix3 k 1 1) = ((var (im x k) : ℝ) : EReal) :=
  (entry_at (centred_im hx) (centred_im hx)).trans (by simp [var])

end

/-! ## The eigenvalues and an eigenvector -/

variable (x0) in
/-- What is known of a token's matrix: its entries are the reals `a`, `b`, `c`, of a positive definite matrix. -/
structure Entries (k : Fin 16384) (a b c : ℝ) : Prop where
  e00 : val_main_v22 x0 (ix1 k) = ((a : ℝ) : EReal)
  e01 : val_main_v24 x0 (ix1 k) = ((b : ℝ) : EReal)
  e11 : val_main_v26 x0 (ix1 k) = ((c : ℝ) : EReal)
  pos0 : 0 < a
  pos1 : 0 < c
  det : 0 < a * c - b * b

section
variable {k : Fin 16384} {a b c : ℝ} (h : Entries x0 k a b c)
include h

/-- Half the difference of the diagonal entries. -/
theorem half_at : val_main_v32 x0 (ix1 k) = (((a - c) / 2 : ℝ) : EReal) := by
  pointwise [val_main_v32, val_main_v31, val_main_v30, val_main_cst_4]
  rw [h.e00, h.e11, bits_2, ← EReal.coe_sub, div_real (by norm_num)]
  rfl

/-- Half the distance of the eigenvalues. -/
theorem gap_at : val_main_v36 x0 (ix1 k) = ((gap a b c : ℝ) : EReal) := by
  pointwise [val_main_v36, val_main_v35, val_main_v34, val_main_v33]
  rw [half_at h, h.e01, ← EReal.coe_mul, ← EReal.coe_mul, ← EReal.coe_add, sqrt_real (add_nonneg (mul_self_nonneg _) (mul_self_nonneg _))]
  rfl

/-- The mean of the eigenvalues. -/
theorem mid_at : val_main_v29 x0 (ix1 k) = ((mid a c : ℝ) : EReal) := by
  pointwise [val_main_v29, val_main_v28, val_main_v27, val_main_cst_3]
  rw [h.e00, h.e11, bits_2, ← EReal.coe_add, div_real (by norm_num)]
  rfl

/-- The inverse square root of the lower eigenvalue. -/
theorem low_at : val_main_v74 x0 (ix2 k 0) = (((√(mid a c - gap a b c))⁻¹ : ℝ) : EReal) := by
  have hp := low_pos h.pos0 h.pos1 h.det
  pointwise [val_main_v74, val_main_v73, val_main_v72, val_main_cst_11, val_main_v41, val_main_v39, val_main_v37]
  rw [mid_at h, gap_at h, ← EReal.coe_sub, sqrt_real hp.le, ← EReal.coe_one, div_real (Real.sqrt_pos.mpr hp).ne', one_mul]

/-- The inverse square root of the higher eigenvalue. -/
theorem high_at : val_main_v74 x0 (ix2 k 1) = (((√(mid a c + gap a b c))⁻¹ : ℝ) : EReal) := by
  have hp := high_pos (b := b) h.pos0 h.pos1
  pointwise [val_main_v74, val_main_v73, val_main_v72, val_main_cst_11, val_main_v41, val_main_v40, val_main_v38]
  rw [mid_at h, gap_at h, ← EReal.coe_add, sqrt_real hp.le, ← EReal.coe_one, div_real (Real.sqrt_pos.mpr hp).ne', one_mul]

/-- The eigenvector before it is scaled, first coordinate. -/
theorem ux_at : val_main_v48 x0 (ix1 k) =
    ((if gap a b c = 0 then 1 else if 0 ≤ (a - c) / 2 then (a - c) / 2 + gap a b c else b : ℝ) : EReal) := by
  pointwise [val_main_v48, val_main_v47, val_main_v46, val_main_v45, val_main_v44, val_main_v43, val_main_v42,
    val_main_cst_5, val_main_cst_6, val_main_cst_7, val_main_call1_v1, val_main_call1_v0]
  rw [gap_at h, half_at h, h.e01]
  have hz : (((gap a b c : ℝ) : EReal) = 0) = (gap a b c = 0) := by rw [← EReal.coe_zero, EReal.coe_eq_coe_iff]
  have hs : ((0 : EReal) ≤ (((a - c) / 2 : ℝ) : EReal)) = (0 ≤ (a - c) / 2) := by
    rw [← EReal.coe_zero, EReal.coe_le_coe_iff]
  have h1 : id (constant (F := Ideal) S_ FTy.f32 0x3F800000#32) ix0 = ((1 : ℝ) : EReal) := bits_1
  simp only [hz, hs, h1, ← EReal.coe_add]
  split_ifs <;> rfl

/-- The eigenvector before it is scaled, second coordinate. -/
theorem uy_at : val_main_v55 x0 (ix1 k) =
    ((if gap a b c = 0 then 0 else if 0 ≤ (a - c) / 2 then b else gap a b c - (a - c) / 2 : ℝ) : EReal) := by
  pointwise [val_main_v55, val_main_v54, val_main_v53, val_main_v52, val_main_v51, val_main_v50, val_main_v49,
    val_main_cst_8, val_main_cst_9, val_main_cst_10, val_main_call3_v1, val_main_call3_v0]
  rw [gap_at h, half_at h, h.e01]
  have hz : (((gap a b c : ℝ) : EReal) = 0) = (gap a b c = 0) := by rw [← EReal.coe_zero, EReal.coe_eq_coe_iff]
  have hs : ((0 : EReal) ≤ (((a - c) / 2 : ℝ) : EReal)) = (0 ≤ (a - c) / 2) := by
    rw [← EReal.coe_zero, EReal.coe_le_coe_iff]
  have h1 : id (constant (F := Ideal) S_ FTy.f32 0x00000000#32) ix0 = ((0 : ℝ) : EReal) := bits_0
  simp only [hz, hs, h1, ← EReal.coe_sub]
  split_ifs <;> rfl

/-- The scaled vector is an eigenvector of length one. -/
theorem eigen_at : ∃ vx vy : ℝ, Eigen a b c vx vy ∧ val_main_v60 x0 (ix1 k) = ((vx : ℝ) : EReal) ∧
    val_main_v61 x0 (ix1 k) = ((vy : ℝ) : EReal) := by
  have scaled : ∀ p q : ℝ, val_main_v48 x0 (ix1 k) = ((p : ℝ) : EReal) → val_main_v55 x0 (ix1 k) = ((q : ℝ) : EReal) →
      0 < p * p + q * q → val_main_v60 x0 (ix1 k) = ((p * (√(p * p + q * q))⁻¹ : ℝ) : EReal) ∧
        val_main_v61 x0 (ix1 k) = ((q * (√(p * p + q * q))⁻¹ : ℝ) : EReal) := by
    intro p q hp hq hn
    have hs := (Real.sqrt_pos.mpr hn).ne'
    constructor
    · pointwise [val_main_v60, val_main_v59, val_main_v58, val_main_v57, val_main_v56]
      rw [hp, hq, ← EReal.coe_mul, ← EReal.coe_mul, ← EReal.coe_add, sqrt_real hn.le, div_real hs]
    · pointwise [val_main_v61, val_main_v59, val_main_v58, val_main_v57, val_main_v56]
      rw [hp, hq, ← EReal.coe_mul, ← EReal.coe_mul, ← EReal.coe_add, sqrt_real hn.le, div_real hs]
  have hux := ux_at h
  have huy := uy_at h
  by_cases hg : gap a b c = 0
  · rw [if_pos hg] at hux huy
    obtain ⟨h1, h2⟩ := scaled 1 0 hux huy (by norm_num)
    exact ⟨1, 0, eigen_of_gap_eq_zero hg, by rw [h1]; norm_num, by rw [h2]; norm_num⟩
  rw [if_neg hg] at hux huy
  have hgp : 0 < gap a b c := lt_of_le_of_ne (gap_nonneg a b c) (Ne.symm hg)
  by_cases hh : 0 ≤ (a - c) / 2
  · rw [if_pos hh] at hux huy
    obtain ⟨h1, h2⟩ := scaled _ _ hux huy
      (add_pos_of_pos_of_nonneg (mul_self_pos.mpr (by linarith)) (mul_self_nonneg _))
    exact ⟨_, _, eigen_of_nonneg hg hh, h1, h2⟩
  · rw [if_neg hh] at hux huy
    have hq : 0 < gap a b c - (a - c) / 2 := by linarith
    obtain ⟨h1, h2⟩ := scaled _ _ hux huy
      (add_pos_of_nonneg_of_pos (mul_self_nonneg _) (mul_self_pos.mpr hq.ne'))
    exact ⟨_, _, eigen_of_neg hg (not_le.mp hh), h1, h2⟩

end

/-! ## The matrix of eigenvectors, its inverse, and the product -/

section
variable {k : Fin 16384} {vx vy : ℝ} (hvx : val_main_v60 x0 (ix1 k) = ((vx : ℝ) : EReal))
  (hvy : val_main_v61 x0 (ix1 k) = ((vy : ℝ) : EReal))
include hvx hvy

/-- The entries of the matrix of eigenvectors. -/
theorem vectors_at : val_main_v71 x0 (ix3 k 0 0) = ((-vy : ℝ) : EReal) ∧ val_main_v71 x0 (ix3 k 0 1) = ((vx : ℝ) : EReal) ∧
    val_main_v71 x0 (ix3 k 1 0) = ((vx : ℝ) : EReal) ∧ val_main_v71 x0 (ix3 k 1 1) = ((vy : ℝ) : EReal) := by
  refine ⟨?_, ?_, ?_, ?_⟩ <;>
  · pointwise [val_main_v71, val_main_v70, val_main_v69, val_main_v68, val_main_v67, val_main_v66, val_main_v65,
      val_main_v64, val_main_v63, val_main_v62]
    simp [hvx, hvy]

/-- Its determinant. -/
theorem det_at (hl : vx * vx + vy * vy = 1) : val_main_v88 x0 (ix1 k) = (((-1 : ℝ)) : EReal) := by
  obtain ⟨h00, h01, h10, h11⟩ := vectors_at hvx hvy
  pointwise [val_main_v88, val_main_v87, val_main_v86, val_main_v85, val_main_v84, val_main_v83, val_main_v82,
    val_main_v81, val_main_v80, val_main_v79, val_main_v78]
  rw [h00, h01, h10, h11, ← EReal.coe_mul, ← EReal.coe_mul, ← EReal.coe_sub]
  exact congrArg _ (by linear_combination -hl)

/-- The matrix of eigenvectors is its own inverse. -/
theorem inverse_at (hl : vx * vx + vy * vy = 1) :
    val_main_v110 x0 (ix3 k 0 0) = ((-vy : ℝ) : EReal) ∧ val_main_v110 x0 (ix3 k 0 1) = ((vx : ℝ) : EReal) ∧
    val_main_v110 x0 (ix3 k 1 0) = ((vx : ℝ) : EReal) ∧ val_main_v110 x0 (ix3 k 1 1) = ((vy : ℝ) : EReal) := by
  obtain ⟨h00, h01, h10, h11⟩ := vectors_at hvx hvy
  have hd := det_at hvx hvy hl
  refine ⟨?_, ?_, ?_, ?_⟩ <;>
  · pointwise [val_main_v110, val_main_v109, val_main_v108, val_main_v107, val_main_v106, val_main_v105, val_main_v104,
      val_main_v103, val_main_v102, val_main_v101, val_main_v100, val_main_v99, val_main_v98, val_main_v97, val_main_v96,
      val_main_v95, val_main_v94, val_main_v93, val_main_v92, val_main_v91, val_main_v90, val_main_v89]
    simp only [h00, h01, h10, h11, hd, ← EReal.coe_neg]
    rw [div_real (by norm_num)]
    exact congrArg _ (by norm_num)

/-- The entries of the eigenvectors' matrix with its columns scaled by `lo` and `hi`. -/
theorem scaled_at {lo hi : ℝ} (hlo : val_main_v74 x0 (ix2 k 0) = ((lo : ℝ) : EReal))
    (hhi : val_main_v74 x0 (ix2 k 1) = ((hi : ℝ) : EReal)) :
    val_main_v77 x0 (ix3 k 0 0) = ((-vy * lo : ℝ) : EReal) ∧ val_main_v77 x0 (ix3 k 0 1) = ((vx * hi : ℝ) : EReal) ∧
    val_main_v77 x0 (ix3 k 1 0) = ((vx * lo : ℝ) : EReal) ∧ val_main_v77 x0 (ix3 k 1 1) = ((vy * hi : ℝ) : EReal) := by
  obtain ⟨h00, h01, h10, h11⟩ := vectors_at hvx hvy
  refine ⟨?_, ?_, ?_, ?_⟩ <;>
  · pointwise [val_main_v77, val_main_v76, val_main_v75]
    simp only [h00, h01, h10, h11, hlo, hhi, ← EReal.coe_mul]

end

/-- The whitening matrix of a token whose matrix has the entries `a`, `b`, `c`. -/
theorem whiten_at {k : Fin 16384} {a b c : ℝ} (h : Entries x0 k a b c) :
    val_main_v111 x0 (ix3 k 0 0) = ((w00 a b c : ℝ) : EReal) ∧ val_main_v111 x0 (ix3 k 0 1) = ((w01 a b c : ℝ) : EReal) ∧
    val_main_v111 x0 (ix3 k 1 0) = ((w01 a b c : ℝ) : EReal) ∧ val_main_v111 x0 (ix3 k 1 1) = ((w11 a b c : ℝ) : EReal) := by
  obtain ⟨vx, vy, he, hvx, hvy⟩ := eigen_at h
  obtain ⟨s00, s01, s10, s11⟩ := scaled_at hvx hvy (low_at h) (high_at h)
  obtain ⟨i00, i01, i10, i11⟩ := inverse_at hvx hvy he.unit
  have e00 := w00_eq h.pos0 h.pos1 h.det he
  have e01 := w01_eq h.pos0 h.pos1 h.det he
  have e11 := w11_eq h.pos0 h.pos1 h.det he
  refine ⟨?_, ?_, ?_, ?_⟩ <;>
  · pointwise [val_main_v111]
    rw [Fin.sum_univ_two]
    simp only [s00, s01, s10, s11, i00, i01, i10, i11, ← EReal.coe_mul, ← EReal.coe_add, ← e00, ← e01, ← e11]
    exact congrArg _ (by ring)

/-- The entries of a token of real numbers. -/
theorem entries {k : Fin 16384} (hx : ∀ d e, x0 (ix4 ⟨k.val / 4096, Layer.batch_lt k⟩ ⟨k.val % 4096, Layer.place_lt k⟩ d e) =
    ((x ⟨k.val / 4096, Layer.batch_lt k⟩ ⟨k.val % 4096, Layer.place_lt k⟩ d e : ℝ) : EReal)) :
    Entries x0 k (var (re x k)) (cov (re x k) (im x k)) (var (im x k)) where
  e00 := by
    pointwise [val_main_v22, val_main_v21]
    exact var_00 hx
  e01 := by
    pointwise [val_main_v24, val_main_v23]
    exact cov_01 hx
  e11 := by
    pointwise [val_main_v26, val_main_v25]
    exact var_11 hx
  pos0 := (var_pos (re x k) (im x k)).1
  pos1 := (var_pos (re x k) (im x k)).2.1
  det := (var_pos (re x k) (im x k)).2.2

end Cert.ReferenceIdeal.Layers
-- ==== Proof.RefInfinite.lean ====
/-
  THE REFERENCE, a token with an infinite entry: the centred parts are infinite, a diagonal entry of the covariance is
  infinite, both eigenvalues are infinite, their inverse square roots are zero, and so are the whitening matrix and the
  whitened token.
-/
module

public import proofs.«01_k».proof.Proof.RefMatrix

@[expose] public section

noncomputable section

namespace Cert.ReferenceIdeal.Layers

open Idealize.ShloMosaic Cert.ReferenceIdeal Cert.ReferenceIdeal.Read IdealReal Infinite

variable {x0 : Vec Ideal S4x4096x2048x2 .f32} {k : Fin 16384}

/-- A centred part of a token with an infinite entry in that part is infinite at every position. -/
theorem centred_inf {e : Fin 2} {d' : Fin 2048}
    (h : Inf (x0 (ix4 ⟨k.val / 4096, Layer.batch_lt k⟩ ⟨k.val % 4096, Layer.place_lt k⟩ d' e))) (d : Fin 2048) :
    Inf (val_main_v6 x0 (ix3 k d e)) := by
  have hs : Inf (∑ j : Fin 2048, x0 (ix4 ⟨k.val / 4096, Layer.batch_lt k⟩ ⟨k.val % 4096, Layer.place_lt k⟩ j e)) :=
    inf_sum (f := fun j : Fin 2048 => x0 (ix4 ⟨k.val / 4096, Layer.batch_lt k⟩ ⟨k.val % 4096, Layer.place_lt k⟩ j e)) h
  pointwise [val_main_v6, val_main_v5, val_main_v4, val_main_v3, val_main_v2, val_main_v1, val_main_v0, val_main_cst,
    val_main_cst_0]
  rw [bits_2048, hs.div_pos (by norm_num)]
  exact hs.sub_right _

/-- A diagonal entry of a token's matrix: the sum of the squares of the centred part, over 2047, with `eps` added. -/
theorem diagonal_at (i : Fin 2) : val_main_v20 x0 (ix3 k i i) =
    Ideal.div (∑ d, val_main_v6 x0 (ix3 k d i) * val_main_v6 x0 (ix3 k d i)) ((2047 : ℝ) : EReal) + ((eps : ℝ) : EReal) := by
  pointwise [val_main_v20, val_main_v9, val_main_v8, val_main_v7, val_main_cst_1, val_main_v19, val_main_v18,
    val_main_v17, val_main_v16, val_main_v15, val_main_v14, val_main_v13, val_main_v12, val_main_v11, val_main_v10,
    val_main_c, val_main_cst_2]
  rw [identity_at, bits_2047, bits_eps, if_pos rfl, EReal.coe_one, mul_one]

/-- A diagonal entry is not negative. -/
theorem diagonal_nonneg (i : Fin 2) : 0 ≤ val_main_v20 x0 (ix3 k i i) := by
  rw [diagonal_at, Ideal.div_coe (by norm_num)]
  refine add_nonneg (mul_nonneg (Finset.sum_nonneg fun d _ => mul_self_nonneg _) ?_) (EReal.coe_nonneg.mpr eps_pos.le)
  exact EReal.coe_nonneg.mpr (by norm_num)

/-- The diagonal entry of a part with an infinite entry. -/
theorem diagonal_top {i : Fin 2} {d : Fin 2048}
    (h : Inf (x0 (ix4 ⟨k.val / 4096, Layer.batch_lt k⟩ ⟨k.val % 4096, Layer.place_lt k⟩ d i))) : val_main_v20 x0 (ix3 k i i) = ⊤ := by
  rw [diagonal_at, sum_squares (f := fun d => val_main_v6 x0 (ix3 k d i)) (centred_inf h 0),
    Inf.div_pos (Or.inl rfl) (by norm_num)]
  exact top_add_nonneg (EReal.coe_nonneg.mpr eps_pos.le)

section
variable (h : ∃ d e, Inf (x0 (ix4 ⟨k.val / 4096, Layer.batch_lt k⟩ ⟨k.val % 4096, Layer.place_lt k⟩ d e)))
include h

/-- The sum of the diagonal is infinite, and so is the difference. -/
theorem trace_top : val_main_v22 x0 (ix1 k) + val_main_v26 x0 (ix1 k) = ⊤ ∧
    Inf (val_main_v22 x0 (ix1 k) - val_main_v26 x0 (ix1 k)) := by
  have h0 : val_main_v22 x0 (ix1 k) = val_main_v20 x0 (ix3 k 0 0) := by
    pointwise [val_main_v22, val_main_v21]
  have h1 : val_main_v26 x0 (ix1 k) = val_main_v20 x0 (ix3 k 1 1) := by
    pointwise [val_main_v26, val_main_v25]
  rw [h0, h1]
  obtain ⟨d, e, hi⟩ := h
  fin_cases e
  · have ht := diagonal_top (i := 0) hi
    exact ⟨by rw [ht]; exact top_add_nonneg (diagonal_nonneg 1), by rw [ht, sub_eq_add_neg]; exact top_add_inf _⟩
  · have ht := diagonal_top (i := 1) hi
    exact ⟨by rw [ht, add_comm]; exact top_add_nonneg (diagonal_nonneg 0),
      by rw [ht]; exact Inf.sub_right (Or.inl rfl) _⟩

/-- The mean of the eigenvalues. -/
theorem mid_top : val_main_v29 x0 (ix1 k) = ⊤ := by
  have ht := (trace_top h).1
  pointwise [val_main_v29, val_main_v28, val_main_v27, val_main_cst_3]
  rw [ht, bits_2, Inf.div_pos (Or.inl rfl) (by norm_num)]

/-- Half the distance of the eigenvalues. -/
theorem gap_top : val_main_v36 x0 (ix1 k) = ⊤ := by
  have hd : Inf (val_main_v32 x0 (ix1 k)) := by
    have ht := (trace_top h).2
    pointwise [val_main_v32, val_main_v31, val_main_v30, val_main_cst_4]
    rw [bits_2, ht.div_pos (by norm_num)]
    exact ht
  pointwise [val_main_v36, val_main_v35, val_main_v34, val_main_v33]
  rw [hd.mul_self, top_add_nonneg (mul_self_nonneg _)]
  rfl

/-- The inverse square roots of both eigenvalues are zero. -/
theorem inverse_roots_zero (j : Fin 2) : val_main_v74 x0 (ix2 k j) = 0 := by
  fin_cases j
  · show val_main_v74 x0 (ix2 k 0) = 0
    pointwise [val_main_v74, val_main_v73, val_main_v72, val_main_cst_11, val_main_v41, val_main_v39, val_main_v37]
    rw [mid_top h, gap_top h, EReal.sub_top]
    exact Inf.div_right (Or.inr rfl) _
  · show val_main_v74 x0 (ix2 k 1) = 0
    pointwise [val_main_v74, val_main_v73, val_main_v72, val_main_cst_11, val_main_v41, val_main_v40, val_main_v38]
    rw [mid_top h, gap_top h, EReal.top_add_top]
    exact Inf.div_right (Or.inl rfl) _

/-- The whitening matrix is zero. -/
theorem whiten_zero (i l : Fin 2) : val_main_v111 x0 (ix3 k i l) = 0 := by
  have hs : ∀ j : Fin 2, val_main_v77 x0 (ix3 k i j) = 0 := by
    intro j
    pointwise [val_main_v77, val_main_v76, val_main_v75]
    rw [inverse_roots_zero h j]
    exact mul_zero _
  pointwise [val_main_v111]
  rw [Fin.sum_univ_two, hs, hs, zero_mul, zero_mul, add_zero]

/-- The whitened token is zero. -/
theorem whitened_zero (i : Fin 2) (d : Fin 2048) : val_main_v112 x0 (ix3 k i d) = 0 := by
  pointwise [val_main_v112]
  rw [Fin.sum_univ_two, whiten_zero h, whiten_zero h, zero_mul, zero_mul, add_zero]

end

end Cert.ReferenceIdeal.Layers

end
-- ==== Proof.RefOut.lean ====
/-
  THE REFERENCE'S RESULT: the whitening matrix times the centred parts, the gains of the token's position times that,
  and the shift, read at (batch, position, feature, part). It is the layer's element plus the shift's.
-/
module

public import proofs.«01_k».proof.Proof.RefInfinite

@[expose] public section

noncomputable section

namespace Cert.ReferenceIdeal.Layers

open Idealize.ShloMosaic Cert.ReferenceIdeal Cert.ReferenceIdeal.Read IdealReal Token Layer Whiten

variable {x0 : Vec Ideal S4x4096x2048x2 .f32} {x : Fin 4 → Fin 4096 → Fin 2048 → Fin 2 → ℝ}
variable {k : Fin 16384} (hx : ∀ d e, x0 (ix4 ⟨k.val / 4096, Layer.batch_lt k⟩ ⟨k.val % 4096, Layer.place_lt k⟩ d e) =
  ((x ⟨k.val / 4096, Layer.batch_lt k⟩ ⟨k.val % 4096, Layer.place_lt k⟩ d e : ℝ) : EReal))
variable {x1 : Vec Ideal S2048x3 .f32} {γ : Fin 2048 → Fin 3 → ℝ}
variable (hg : ∀ s j, x1 (ix2 s j) = ((γ s j : ℝ) : EReal))

/-- The gains as the reference lays them out: the 2×2 matrix `[[g0, g1], [g1, g2]]` of row `n mod 2048`. -/
theorem gains_at (hg : ∀ s j, x1 (ix2 s j) = ((γ s j : ℝ) : EReal)) (n : Fin 33554432) (i j : Fin 2) :
    val_main_v122 x1 (ix3 n i j) = ((γ ⟨n.val % 2048, by omega⟩ ⟨i.val + j.val, by omega⟩ : ℝ) : EReal) := by
  pointwise [val_main_v122, val_main_v121, val_main_v120, val_main_v119, val_main_v118, val_main_v117, val_main_v116,
    val_main_v115]
  fin_cases j
  · rw [dif_pos (by decide), hg]; rfl
  · rw [dif_neg (by decide), hg]
    exact congrArg _ (congrArg _ (Fin.ext (Nat.add_comm _ _)))

/-- A whitened element where the reference lists them by feature and token. -/
theorem listed_at (d : Fin 2048) (n : Fin 33554432) (hn : n.val = d.val * 16384 + k.val) (j : Fin 2) :
    val_main_v114 x0 (ix2 n j) = val_main_v112 x0 (ix3 k j d) := by
  pointwise [val_main_v114, val_main_v113]
  exact congrArg₂ (fun (a : Fin 16384) (b : Fin 2048) => val_main_v112 x0 (ix3 a j b)) (Fin.ext (by dsimp only; omega))
    (Fin.ext (by dsimp only; omega))

section
include hx

/-- A whitened element: a row of the whitening matrix times the centred parts. -/
theorem whitened_at (d : Fin 2048) :
    val_main_v112 x0 (ix3 k 0 d) = ((w00 (var (re x k)) (cov (re x k) (im x k)) (var (im x k)) * (re x k d - mean (re x k)) +
      w01 (var (re x k)) (cov (re x k) (im x k)) (var (im x k)) * (im x k d - mean (im x k)) : ℝ) : EReal) ∧
    val_main_v112 x0 (ix3 k 1 d) = ((w01 (var (re x k)) (cov (re x k) (im x k)) (var (im x k)) * (re x k d - mean (re x k)) +
      w11 (var (re x k)) (cov (re x k) (im x k)) (var (im x k)) * (im x k d - mean (im x k)) : ℝ) : EReal) := by
  obtain ⟨h00, h01, h10, h11⟩ := whiten_at (entries hx)
  refine ⟨?_, ?_⟩ <;>
  · pointwise [val_main_v112]
    rw [Fin.sum_univ_two]
    simp only [h00, h01, h10, h11, centred_re hx d, centred_im hx d, ← EReal.coe_mul, ← EReal.coe_add]

include hg

/-- A token's element after the gains, for either part. -/
theorem scaled_out (d : Fin 2048) (e : Fin 2) (n : Fin 33554432) (hn : n.val = d.val * 16384 + k.val) :
    ∑ j, val_main_v122 x1 (ix3 n e j) * val_main_v114 x0 (ix2 n j) =
      ((if e.val = 0 then first x γ k d else second x γ k d : ℝ) : EReal) := by
  have hm : (⟨n.val % 2048, by omega⟩ : Fin 2048) = ⟨k.val % 2048, by omega⟩ := Fin.ext (by dsimp only; omega)
  obtain ⟨hw0, hw1⟩ := whitened_at hx d
  rw [Fin.sum_univ_two]
  simp only [listed_at d n hn, hw0, hw1, gains_at hg, hm, ← EReal.coe_mul, ← EReal.coe_add]
  refine congrArg _ ?_
  fin_cases e
  · show gain γ k 0 * _ + gain γ k 1 * _ = first x γ k d
    simp only [first, outRe, offRe, m00, m01]
    ring
  · show gain γ k 1 * _ + gain γ k 2 * _ = second x γ k d
    simp only [second, outIm, offIm, m10, m11]
    ring

omit hx in
/-- The reference's result at (batch, position, feature, part): the layer's element plus the shift's. -/
theorem result_at (x2 : Vec Ideal S2048x2 .f32) (b : Fin 4) (s : Fin 4096) (d : Fin 2048) (e : Fin 2) :
    val_main_v129 x0 x1 x2 (ix4 b s d e) = whole γ (fun b s d e => x0 (ix4 b s d e)) b s d e + x2 (ix2 d e) := by
  have hb : (⟨(tok b s).val / 4096, by omega⟩ : Fin 4) = b := Fin.ext (by simp only [tok]; omega)
  have hs : (⟨(tok b s).val % 4096, by omega⟩ : Fin 4096) = s := Fin.ext (by simp only [tok]; omega)
  pointwise [val_main_v129, val_main_v128, val_main_v127, val_main_v126, val_main_v125, val_main_v124, val_main_v123]
  refine congrArg (· + _) ?_
  by_cases h : ∃ d e, Infinite.Inf (x0 (ix4 b s d e))
  · rw [whole_inf (X := fun b s d e => x0 (ix4 b s d e)) γ h]
    refine Finset.sum_eq_zero fun j _ => ?_
    rw [listed_at (k := tok b s) d _ (by simp only [tok]; omega) j, whitened_zero (by rw [hb, hs]; exact h), mul_zero]
  · rw [whole_real (X := fun b s d e => x0 (ix4 b s d e)) γ h]
    refine scaled_out (k := tok b s) (x := fun b s d e => (x0 (ix4 b s d e)).toReal) (fun d e => ?_) hg d e _
      (by simp only [tok]; omega)
    rw [hb, hs]
    exact real_of_not_inf (X := fun b s d e => x0 (ix4 b s d e)) h d e

omit hx in
/-- The reference's result. -/
theorem result_eq (x2 : Vec Ideal S2048x2 .f32) : val_main_v129 x0 x1 x2 =
    fun i => whole γ (fun b s d e => x0 (ix4 b s d e)) (i 0) (i 1) (i 2) (i 3) + x2 (ix2 (i 2) (i 3)) :=
  funext fun i => (congrArg _ (eq_ix4 i)).trans (result_at hg x2 (i 0) (i 1) (i 2) (i 3))

end

end Cert.ReferenceIdeal.Layers

end
-- ==== Proof.Finite.lean ====
/-
  THE PRECONDITION read: where `finite_gamma` holds of the three arguments, every element of the gains is a real number.
-/
module

public import proofs.«01_k».proof.Pre_finite_gamma
public import proofs.«01_k».proof.Proof.IdealReal
public import Idealize.ShloMosaic.Lib.Pointwise
public import Idealize.ShloMosaic.Lib.ReduceAll
public import Idealize.ShloMosaic.Lib.Affine
public import Idealize.ShloMosaic.Lib.WordArith

@[expose] public section

noncomputable section

namespace Cert.Pre_finite_gamma.Reals

open Idealize.ShloMosaic Cert.Pre_finite_gamma IdealReal

/-- The shape relations the predicate states. -/
theorem facts : Cert.Pre_finite_gamma.Facts := ⟨by decide, by decide, by decide⟩

instance : Cert.Pre_finite_gamma.Facts := facts

instance : Subsingleton S_.Idx := ⟨fun _ _ => funext fun a => a.elim0⟩

/-- A value whose magnitude is below infinity is a real number. -/
theorem real_of_lt {y : EReal} (h : Ideal.cmp CmpFPredicate.olt (max y (-y)) (Ideal.ofBits .f32 0x7F800000#32) = 1#1) :
    y = ((y.toReal : ℝ) : EReal) := by
  have hl : max y (-y) < ⊤ := by
    have h' := (WordArith.ofBool_eq_one_iff _).mp h
    rw [bits_inf] at h'
    exact of_decide_eq_true h'
  refine (EReal.coe_toReal (ne_of_lt (lt_of_le_of_lt (le_max_left _ _) hl)) fun hb => ?_).symm
  rw [hb, EReal.neg_bot] at hl
  exact absurd (lt_of_le_of_lt (le_max_right _ _) hl) (lt_irrefl _)

variable {x0 : FVec Ideal S4x4096x2048x2 .f32} {x1 : FVec Ideal S2048x3 .f32} {x2 : FVec Ideal S2048x2 .f32}

/-- Every element of the gains is a real number. -/
theorem reals (h : fn (F := Ideal) x0 x1 x2 = fun _ => 1#1) : ∀ i, x1 i = ((EReal.toReal (x1 i) : ℝ) : EReal) := by
  have h0 := congrFun h ix0
  dsimp only [fn] at h0
  exact fun i => real_of_lt (Host.reduce_andi_all _ _ _ _ _ h0 i)

end Cert.Pre_finite_gamma.Reals
-- ==== Proof.lean ====
/-
  THE PROOF of `Cert.Claim`: the kernel and the reference run and leave their arguments unchanged with every semaphore
  counter at zero; the kernel's idealized form is the kernel's own text; and where the gains are finite, over the
  extended reals, the kernel's result is the reference's. The mathematics is in the modules this one assembles.
-/
module

public import proofs.«01_k».proof.Defs
public import proofs.«01_k».proof.Proof.Gen.Kernel.Frame
public import proofs.«01_k».proof.Proof.KernelArray
public import proofs.«01_k».proof.Proof.RefOut
public import proofs.«01_k».proof.Proof.Finite
public import Idealize.ShloMosaic.Lib.Claim

@[expose] public section

noncomputable section

namespace Cert.Proof

open Idealize.ShloMosaic Idealize.SL.Sem

/-- The kernel as printed runs, leaves its arguments unchanged and every semaphore counter at zero. -/
theorem frame_kernel : Cert.quiescent_Kernel := fun m g _ => Cert.Kernel.Gen.frame m g

/-- The idealized kernel does. -/
theorem frame_ideal : Cert.quiescent_KernelIdeal := fun m g _ => Cert.KernelIdeal.Gen.frame m g

/-- So it does where the gains are finite. -/
theorem frame_ideal_finite : Cert.quiescent_KernelIdeal_pre_finite_gamma := fun m g _ => Cert.KernelIdeal.Gen.frame m g

/-- The reference runs, leaves its arguments unchanged and every semaphore counter at zero: it has none. -/
theorem frame_reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- So it does where the gains are finite. -/
theorem frame_reference_finite : Cert.quiescent_ReferenceIdeal_pre_finite_gamma := fun m g _ => frame_reference m g trivial

/-- Where the gains are finite the kernel's result is the reference's, element by element. -/
theorem algebraic : Cert.algebraic_KernelIdeal_ReferenceIdeal_pre_finite_gamma := by
  intro m g m' g' hp hagree
  let γ (c : Dev Cert.KernelIdeal.nD) (s : Fin 2048) (j : Fin 3) : ℝ :=
    EReal.toReal ((m (c.tc.loc Cert.KernelIdeal.main_arg1) : Vec Ideal Cert.KernelIdeal.S2048x3 .f32) (ix2 s j))
  have hg (c : Dev Cert.KernelIdeal.nD) (s j) : (m (c.tc.loc Cert.KernelIdeal.main_arg1) :
      Vec Ideal Cert.KernelIdeal.S2048x3 .f32) (ix2 s j) = ((γ c s j : ℝ) : EReal) :=
    Cert.Pre_finite_gamma.Reals.reals (hp c) _
  refine ⟨fun c i => Layer.whole (γ c) (Cert.KernelIdeal.Arrays.input m c) (i 0) (i 1) (i 2) (i 3) +
    (m (c.tc.loc Cert.KernelIdeal.main_arg2) : Vec Ideal Cert.KernelIdeal.S2048x2 .f32) (ix2 (i 2) (i 3)), ?_, ?_⟩
  · exact Cert.KernelIdeal.Arrays.run m g γ hg
  · refine (θ_run Cert.ReferenceIdeal.defs _ _).mono (fun r h c => ⟨?_, (h c).2⟩)
      (Cert.ReferenceIdeal.Value.run (F := Ideal) m' g')
    obtain ⟨h0, h1, h2⟩ := hagree c
    refine ((h c).1.trans (Cert.ReferenceIdeal.Read.val_main_v129_eq (StableHlo.launchContents m' c))).trans ?_
    rw [StableHlo.launchContents_devRef, StableHlo.launchContents_devRef, StableHlo.launchContents_devRef, h0, h1, h2]
    exact Cert.ReferenceIdeal.Layers.result_eq (hg c) _

/-- Everything claimed. -/
theorem claim : Cert.Claim :=
  ⟨Cert.Kernel.Gen.facts, Cert.KernelIdeal.Gen.facts, Cert.ReferenceIdeal.Gen.facts, Cert.Pre_finite_gamma.Reals.facts,
    frame_kernel, frame_ideal, frame_ideal_finite, frame_reference, frame_reference_finite, trivial, algebraic⟩

end Cert.Proof

end
